-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S4096x512 : Shape := ⟨2, ![4096, 512]⟩
abbrev S8x512x256 : Shape := ⟨3, ![8, 512, 256]⟩
abbrev S8 : Shape := ⟨1, ![8]⟩
abbrev S_ : Shape := ⟨0, ![]⟩
abbrev S1 : Shape := ⟨1, ![1]⟩
abbrev S1x512x256 : Shape := ⟨3, ![1, 512, 256]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S4096x512, .f32⟩
  | .local _ .vmem, ⟨0, _⟩ => ⟨S512x256, .bf16⟩
  | .local _ .vmem, ⟨1, _⟩ => ⟨S256x512, .bf16⟩
  | .local _ .vmem, ⟨2, _⟩ => ⟨S4096x512, .f32⟩
  | .local _ .vmem, ⟨3, _⟩ => ⟨S512x256, .bf16⟩
  | .local _ .vmem, ⟨4, _⟩ => ⟨S8x512x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_77 : BitVec 32 := 0#32
  let c0_i32_78 : BitVec 32 := 0#32
  ![v2.toNat, 0, 0]
def k0_dev8 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v100 : BitVec 32 := Scalar.addi v2 c1_i32_67
  let c8_i32_68 : BitVec 32 := 8#32
  let c0_i32_69 : BitVec 32 := 0#32
  let v101 : BitVec 1 := Scalar.cmpi .eq c8_i32_68 c0_i32_69
  let c1_i32_70 : BitVec 32 := 1#32
  let v102 : BitVec 32 := Scalar.select v101 c1_i32_70 c8_i32_68
  let v103 : BitVec 32 := Scalar.remsi v100 v102
  let c0_i32_72 : BitVec 32 := 0#32
  let v105 : BitVec 1 := Scalar.cmpi .slt v103 c0_i32_72
  let c0_i32_73 : BitVec 32 := 0#32
  let v106 : BitVec 1 := Scalar.cmpi .slt v102 c0_i32_73
  let v107 : BitVec 1 := Scalar.xori v105 v106
  let c0_i32_71 : BitVec 32 := 0#32
  let v104 : BitVec 1 := Scalar.cmpi .ne v103 c0_i32_71
  let v108 : BitVec 1 := Scalar.andi v107 v104
  let v109 : BitVec 32 := Scalar.addi v103 v102
  let v110 : BitVec 32 := Scalar.select v108 v109 v103
  let c1_i32_75 : BitVec 32 := 1#32
  let v111 : BitVec 32 := Scalar.muli v110 c1_i32_75
  let v112 : BitVec 32 := Scalar.addi c0_i32_76 v111
  v112.toNat
def k0_dev9 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_79 : BitVec 32 := 2#32
  let v119 : BitVec 32 := Scalar.addi v2 c2_i32_79
  let c8_i32_80 : BitVec 32 := 8#32
  let c0_i32_81 : BitVec 32 := 0#32
  let v120 : BitVec 1 := Scalar.cmpi .eq c8_i32_80 c0_i32_81
  let c1_i32_82 : BitVec 32 := 1#32
  let v121 : BitVec 32 := Scalar.select v120 c1_i32_82 c8_i32_80
  let v122 : BitVec 32 := Scalar.remsi v119 v121
  let c0_i32_84 : BitVec 32 := 0#32
  let v124 : BitVec 1 := Scalar.cmpi .slt v122 c0_i32_84
  let c0_i32_85 : BitVec 32 := 0#32
  let v125 : BitVec 1 := Scalar.cmpi .slt v121 c0_i32_85
  let v126 : BitVec 1 := Scalar.xori v124 v125
  let c0_i32_83 : BitVec 32 := 0#32
  let v123 : BitVec 1 := Scalar.cmpi .ne v122 c0_i32_83
  let v127 : BitVec 1 := Scalar.andi v126 v123
  let v128 : BitVec 32 := Scalar.addi v122 v121
  let v129 : BitVec 32 := Scalar.select v127 v128 v122
  let c1_i32_87 : BitVec 32 := 1#32
  let v130 : BitVec 32 := Scalar.muli v129 c1_i32_87
  let v131 : BitVec 32 := Scalar.addi c0_i32_88 v130
  v131.toNat
def k0_dev10 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v138 : BitVec 32 := Scalar.addi v2 c3_i32_91
  let c8_i32_92 : BitVec 32 := 8#32
  let c0_i32_93 : BitVec 32 := 0#32
  let v139 : BitVec 1 := Scalar.cmpi .eq c8_i32_92 c0_i32_93
  let c1_i32_94 : BitVec 32 := 1#32
  let v140 : BitVec 32 := Scalar.select v139 c1_i32_94 c8_i32_92
  let v141 : BitVec 32 := Scalar.remsi v138 v140
  let c0_i32_96 : BitVec 32 := 0#32
  let v143 : BitVec 1 := Scalar.cmpi .slt v141 c0_i32_96
  let c0_i32_97 : BitVec 32 := 0#32
  let v144 : BitVec 1 := Scalar.cmpi .slt v140 c0_i32_97
  let v145 : BitVec 1 := Scalar.xori v143 v144
  let c0_i32_95 : BitVec 32 := 0#32
  let v142 : BitVec 1 := Scalar.cmpi .ne v141 c0_i32_95
  let v146 : BitVec 1 := Scalar.andi v145 v142
  let v147 : BitVec 32 := Scalar.addi v141 v140
  let v148 : BitVec 32 := Scalar.select v146 v147 v141
  let c1_i32_99 : BitVec 32 := 1#32
  let v149 : BitVec 32 := Scalar.muli v148 c1_i32_99
  let v150 : BitVec 32 := Scalar.addi c0_i32_100 v149
  v150.toNat
def k0_dev11 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_103 : BitVec 32 := 4#32
  let v157 : BitVec 32 := Scalar.addi v2 c4_i32_103
  let c8_i32_104 : BitVec 32 := 8#32
  let c0_i32_105 : BitVec 32 := 0#32
  let v158 : BitVec 1 := Scalar.cmpi .eq c8_i32_104 c0_i32_105
  let c1_i32_106 : BitVec 32 := 1#32
  let v159 : BitVec 32 := Scalar.select v158 c1_i32_106 c8_i32_104
  let v160 : BitVec 32 := Scalar.remsi v157 v159
  let c0_i32_108 : BitVec 32 := 0#32
  let v162 : BitVec 1 := Scalar.cmpi .slt v160 c0_i32_108
  let c0_i32_109 : BitVec 32 := 0#32
  let v163 : BitVec 1 := Scalar.cmpi .slt v159 c0_i32_109
  let v164 : BitVec 1 := Scalar.xori v162 v163
  let c0_i32_107 : BitVec 32 := 0#32
  let v161 : BitVec 1 := Scalar.cmpi .ne v160 c0_i32_107
  let v165 : BitVec 1 := Scalar.andi v164 v161
  let v166 : BitVec 32 := Scalar.addi v160 v159
  let v167 : BitVec 32 := Scalar.select v165 v166 v160
  let c1_i32_111 : BitVec 32 := 1#32
  let v168 : BitVec 32 := Scalar.muli v167 c1_i32_111
  let v169 : BitVec 32 := Scalar.addi c0_i32_112 v168
  v169.toNat
def k0_dev12 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_115 : BitVec 32 := 5#32
  let v176 : BitVec 32 := Scalar.addi v2 c5_i32_115
  let c8_i32_116 : BitVec 32 := 8#32
  let c0_i32_117 : BitVec 32 := 0#32
  let v177 : BitVec 1 := Scalar.cmpi .eq c8_i32_116 c0_i32_117
  let c1_i32_118 : BitVec 32 := 1#32
  let v178 : BitVec 32 := Scalar.select v177 c1_i32_118 c8_i32_116
  let v179 : BitVec 32 := Scalar.remsi v176 v178
  let c0_i32_120 : BitVec 32 := 0#32
  let v181 : BitVec 1 := Scalar.cmpi .slt v179 c0_i32_120
  let c0_i32_121 : BitVec 32 := 0#32
  let v182 : BitVec 1 := Scalar.cmpi .slt v178 c0_i32_121
  let v183 : BitVec 1 := Scalar.xori v181 v182
  let c0_i32_119 : BitVec 32 := 0#32
  let v180 : BitVec 1 := Scalar.cmpi .ne v179 c0_i32_119
  let v184 : BitVec 1 := Scalar.andi v183 v180
  let v185 : BitVec 32 := Scalar.addi v179 v178
  let v186 : BitVec 32 := Scalar.select v184 v185 v179
  let c1_i32_123 : BitVec 32 := 1#32
  let v187 : BitVec 32 := Scalar.muli v186 c1_i32_123
  let v188 : BitVec 32 := Scalar.addi c0_i32_124 v187
  v188.toNat
def k0_dev13 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_127 : BitVec 32 := 6#32
  let v195 : BitVec 32 := Scalar.addi v2 c6_i32_127
  let c8_i32_128 : BitVec 32 := 8#32
  let c0_i32_129 : BitVec 32 := 0#32
  let v196 : BitVec 1 := Scalar.cmpi .eq c8_i32_128 c0_i32_129
  let c1_i32_130 : BitVec 32 := 1#32
  let v197 : BitVec 32 := Scalar.select v196 c1_i32_130 c8_i32_128
  let v198 : BitVec 32 := Scalar.remsi v195 v197
  let c0_i32_132 : BitVec 32 := 0#32
  let v200 : BitVec 1 := Scalar.cmpi .slt v198 c0_i32_132
  let c0_i32_133 : BitVec 32 := 0#32
  let v201 : BitVec 1 := Scalar.cmpi .slt v197 c0_i32_133
  let v202 : BitVec 1 := Scalar.xori v200 v201
  let c0_i32_131 : BitVec 32 := 0#32
  let v199 : BitVec 1 := Scalar.cmpi .ne v198 c0_i32_131
  let v203 : BitVec 1 := Scalar.andi v202 v199
  let v204 : BitVec 32 := Scalar.addi v198 v197
  let v205 : BitVec 32 := Scalar.select v203 v204 v198
  let c1_i32_135 : BitVec 32 := 1#32
  let v206 : BitVec 32 := Scalar.muli v205 c1_i32_135
  let v207 : BitVec 32 := Scalar.addi c0_i32_136 v206
  v207.toNat
def k0_dev14 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_139 : BitVec 32 := 7#32
  let v214 : BitVec 32 := Scalar.addi v2 c7_i32_139
  let c8_i32_140 : BitVec 32 := 8#32
  let c0_i32_141 : BitVec 32 := 0#32
  let v215 : BitVec 1 := Scalar.cmpi .eq c8_i32_140 c0_i32_141
  let c1_i32_142 : BitVec 32 := 1#32
  let v216 : BitVec 32 := Scalar.select v215 c1_i32_142 c8_i32_140
  let v217 : BitVec 32 := Scalar.remsi v214 v216
  let c0_i32_144 : BitVec 32 := 0#32
  let v219 : BitVec 1 := Scalar.cmpi .slt v217 c0_i32_144
  let c0_i32_145 : BitVec 32 := 0#32
  let v220 : BitVec 1 := Scalar.cmpi .slt v216 c0_i32_145
  let v221 : BitVec 1 := Scalar.xori v219 v220
  let c0_i32_143 : BitVec 32 := 0#32
  let v218 : BitVec 1 := Scalar.cmpi .ne v217 c0_i32_143
  let v222 : BitVec 1 := Scalar.andi v221 v218
  let v223 : BitVec 32 := Scalar.addi v217 v216
  let v224 : BitVec 32 := Scalar.select v222 v223 v217
  let c1_i32_147 : BitVec 32 := 1#32
  let v225 : BitVec 32 := Scalar.muli v224 c1_i32_147
  let v226 : BitVec 32 := Scalar.addi c0_i32_148 v225
  v226.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v237 : BitVec 32 := Scalar.muli v2 c512_i32
  let v238 : Index := Scalar.indexCast v237
  let c0_155 : Index := 0#32
  ![v238.toNat, 0]
def k0_off4 (d0 : Dev nD) (c1_i32_156 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v240 : BitVec 32 := Scalar.subi v2 c1_i32_156
  let c8_i32_157 : BitVec 32 := 8#32
  let c0_i32_158 : BitVec 32 := 0#32
  let v241 : BitVec 1 := Scalar.cmpi .eq c8_i32_157 c0_i32_158
  let c1_i32_159 : BitVec 32 := 1#32
  let v242 : BitVec 32 := Scalar.select v241 c1_i32_159 c8_i32_157
  let v243 : BitVec 32 := Scalar.remsi v240 v242
  let c0_i32_161 : BitVec 32 := 0#32
  let v245 : BitVec 1 := Scalar.cmpi .slt v243 c0_i32_161
  let c0_i32_162 : BitVec 32 := 0#32
  let v246 : BitVec 1 := Scalar.cmpi .slt v242 c0_i32_162
  let v247 : BitVec 1 := Scalar.xori v245 v246
  let c0_i32_160 : BitVec 32 := 0#32
  let v244 : BitVec 1 := Scalar.cmpi .ne v243 c0_i32_160
  let v248 : BitVec 1 := Scalar.andi v247 v244
  let v249 : BitVec 32 := Scalar.addi v243 v242
  let v250 : BitVec 32 := Scalar.select v248 v249 v243
  ![v250.toNat]
def k0_off5 (d0 : Dev nD) (c1_i32_156 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v240 : BitVec 32 := Scalar.subi v2 c1_i32_156
  let c8_i32_157 : BitVec 32 := 8#32
  let c0_i32_158 : BitVec 32 := 0#32
  let v241 : BitVec 1 := Scalar.cmpi .eq c8_i32_157 c0_i32_158
  let c1_i32_159 : BitVec 32 := 1#32
  let v242 : BitVec 32 := Scalar.select v241 c1_i32_159 c8_i32_157
  let v243 : BitVec 32 := Scalar.remsi v240 v242
  let c0_i32_161 : BitVec 32 := 0#32
  let v245 : BitVec 1 := Scalar.cmpi .slt v243 c0_i32_161
  let c0_i32_162 : BitVec 32 := 0#32
  let v246 : BitVec 1 := Scalar.cmpi .slt v242 c0_i32_162
  let v247 : BitVec 1 := Scalar.xori v245 v246
  let c0_i32_160 : BitVec 32 := 0#32
  let v244 : BitVec 1 := Scalar.cmpi .ne v243 c0_i32_160
  let v248 : BitVec 1 := Scalar.andi v247 v244
  let v249 : BitVec 32 := Scalar.addi v243 v242
  let v250 : BitVec 32 := Scalar.select v248 v249 v243
  let c0_i32_166 : BitVec 32 := 0#32
  let c0_i32_167 : BitVec 32 := 0#32
  ![v250.toNat, 0, 0]
def k0_off6 (d0 : Dev nD) (c1_i32_156 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v240 : BitVec 32 := Scalar.subi v2 c1_i32_156
  let c8_i32_157 : BitVec 32 := 8#32
  let c0_i32_158 : BitVec 32 := 0#32
  let v241 : BitVec 1 := Scalar.cmpi .eq c8_i32_157 c0_i32_158
  let c1_i32_159 : BitVec 32 := 1#32
  let v242 : BitVec 32 := Scalar.select v241 c1_i32_159 c8_i32_157
  let v243 : BitVec 32 := Scalar.remsi v240 v242
  let c0_i32_161 : BitVec 32 := 0#32
  let v245 : BitVec 1 := Scalar.cmpi .slt v243 c0_i32_161
  let c0_i32_162 : BitVec 32 := 0#32
  let v246 : BitVec 1 := Scalar.cmpi .slt v242 c0_i32_162
  let v247 : BitVec 1 := Scalar.xori v245 v246
  let c0_i32_160 : BitVec 32 := 0#32
  let v244 : BitVec 1 := Scalar.cmpi .ne v243 c0_i32_160
  let v248 : BitVec 1 := Scalar.andi v247 v244
  let v249 : BitVec 32 := Scalar.addi v243 v242
  let v250 : BitVec 32 := Scalar.select v248 v249 v243
  let v257 : Index := Scalar.indexCast v250
  let c0_168 : Index := 0#32
  let c0_169 : Index := 0#32
  ![v257.toNat, 0, 0]
def k0_off7 (d0 : Dev nD) (c1_i32_156 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v240 : BitVec 32 := Scalar.subi v2 c1_i32_156
  let c8_i32_157 : BitVec 32 := 8#32
  let c0_i32_158 : BitVec 32 := 0#32
  let v241 : BitVec 1 := Scalar.cmpi .eq c8_i32_157 c0_i32_158
  let c1_i32_159 : BitVec 32 := 1#32
  let v242 : BitVec 32 := Scalar.select v241 c1_i32_159 c8_i32_157
  let v243 : BitVec 32 := Scalar.remsi v240 v242
  let c0_i32_161 : BitVec 32 := 0#32
  let v245 : BitVec 1 := Scalar.cmpi .slt v243 c0_i32_161
  let c0_i32_162 : BitVec 32 := 0#32
  let v246 : BitVec 1 := Scalar.cmpi .slt v242 c0_i32_162
  let v247 : BitVec 1 := Scalar.xori v245 v246
  let c0_i32_160 : BitVec 32 := 0#32
  let v244 : BitVec 1 := Scalar.cmpi .ne v243 c0_i32_160
  let v248 : BitVec 1 := Scalar.andi v247 v244
  let v249 : BitVec 32 := Scalar.addi v243 v242
  let v250 : BitVec 32 := Scalar.select v248 v249 v243
  let c512_i32_171 : BitVec 32 := 512#32
  let v261 : BitVec 32 := Scalar.muli v250 c512_i32_171
  let v262 : Index := Scalar.indexCast v261
  let c0_172 : Index := 0#32
  ![v262.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x256 : Shape := ⟨2, ![4096, 256]⟩
abbrev S256x512 : Shape := ⟨2, ![256, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x512, .bf16⟩
  | .hbm, ⟨2, _⟩ => ⟨S4096x512, .f32⟩
  | .hbm, ⟨3, _⟩ => ⟨S4096x512, .bf16⟩
  | .hbm, ⟨4, _⟩ => ⟨S4096x512, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Exchange.lean ====
/-
The all-to-all exchange: who talks to whom, the buffers and semaphores it runs on, and its schedule.

Eight devices. Device `c` signals every other device's barrier semaphore, waits for its own seven units, copies its
block of `A` into slot `c` of every other device's landing buffer, and multiplies each block as it arrives. The `j`-th
step of a device (`j = 1 … 7`) addresses device `c + j` while it sends and awaits device `c - j` while it receives, in
`Fin 8`. Every fact below is stated once, for all steps.
-/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's own copy, and the exchange's, its duties named by the paying device -/

abbrev UX : Type := URounds (GSem nD τ sig) (Fin 8)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory the program starts from: any contents, every counter zero, any generator registers. -/
def s₀ : MemSt nD τ sig (Elt F) := ⟨m, fun _ => 0, ρ⟩

/-! ## Peers -/

/-- The program's device numbers, in closed form: the `j`-th signal and the `j`-th copy both address `c + j`. -/
theorem sig1 (c : Dev nD) : (⟨k0_dev1 c, k0_dev1_lt c⟩ : Fin 8) = c + 1 := by revert c; decide +kernel
theorem sig2 (c : Dev nD) : (⟨k0_dev2 c, k0_dev2_lt c⟩ : Fin 8) = c + 2 := by revert c; decide +kernel
theorem sig3 (c : Dev nD) : (⟨k0_dev3 c, k0_dev3_lt c⟩ : Fin 8) = c + 3 := by revert c; decide +kernel
theorem sig4 (c : Dev nD) : (⟨k0_dev4 c, k0_dev4_lt c⟩ : Fin 8) = c + 4 := by revert c; decide +kernel
theorem sig5 (c : Dev nD) : (⟨k0_dev5 c, k0_dev5_lt c⟩ : Fin 8) = c + 5 := by revert c; decide +kernel
theorem sig6 (c : Dev nD) : (⟨k0_dev6 c, k0_dev6_lt c⟩ : Fin 8) = c + 6 := by revert c; decide +kernel
theorem sig7 (c : Dev nD) : (⟨k0_dev7 c, k0_dev7_lt c⟩ : Fin 8) = c + 7 := by revert c; decide +kernel
theorem cpy1 (c : Dev nD) : (⟨k0_dev8 c, k0_dev8_lt c⟩ : Fin 8) = c + 1 := by revert c; decide +kernel
theorem cpy2 (c : Dev nD) : (⟨k0_dev9 c, k0_dev9_lt c⟩ : Fin 8) = c + 2 := by revert c; decide +kernel
theorem cpy3 (c : Dev nD) : (⟨k0_dev10 c, k0_dev10_lt c⟩ : Fin 8) = c + 3 := by revert c; decide +kernel
theorem cpy4 (c : Dev nD) : (⟨k0_dev11 c, k0_dev11_lt c⟩ : Fin 8) = c + 4 := by revert c; decide +kernel
theorem cpy5 (c : Dev nD) : (⟨k0_dev12 c, k0_dev12_lt c⟩ : Fin 8) = c + 5 := by revert c; decide +kernel
theorem cpy6 (c : Dev nD) : (⟨k0_dev13 c, k0_dev13_lt c⟩ : Fin 8) = c + 6 := by revert c; decide +kernel
theorem cpy7 (c : Dev nD) : (⟨k0_dev14 c, k0_dev14_lt c⟩ : Fin 8) = c + 7 := by revert c; decide +kernel

/-- The offsets of receive step `r + 1`: they name device `c - (r + 1)`. -/
theorem off4_eq : ∀ (c : Fin 8) (r : Fin 7), k0_off4 c (BitVec.ofNat 32 (1 + r.val)) = ![(c - r.succ).val] := by decide +kernel
theorem off5_eq : ∀ (c : Fin 8) (r : Fin 7), k0_off5 c (BitVec.ofNat 32 (1 + r.val)) = ![(c - r.succ).val, 0, 0] := by decide +kernel
theorem off6_eq : ∀ (c : Fin 8) (r : Fin 7), k0_off6 c (BitVec.ofNat 32 (1 + r.val)) = ![(c - r.succ).val, 0, 0] := by decide +kernel
theorem off7_eq : ∀ (c : Fin 8) (r : Fin 7), k0_off7 c (BitVec.ofNat 32 (1 + r.val)) = ![512 * (c - r.succ).val, 0] := by decide +kernel

/-! ## Buffers -/

/-- Staging of the block of `A`, of `B` and of the result; the send buffer; the landing buffer. -/
abbrev aM : Memref sig .tc .vmem S512x256 .bf16 := Memref.whole cc0_stg0_0
abbrev bM : Memref sig .tc .vmem S256x512 .bf16 := Memref.whole cc0_stg1_0
abbrev oM : Memref sig .tc .vmem S4096x512 .f32 := Memref.whole cc0_stg2_0
abbrev sM : Memref sig .tc .vmem S512x256 .bf16 := Memref.whole cc0_scratch0
abbrev lM : Memref sig .tc .vmem S8x512x256 .bf16 := Memref.whole cc0_scratch1

theorem slot_inb (s : Fin 8) : ∀ a, (![s.val, 0, 0] : Fin 3 → ℕ) a + S1x512x256.size a ≤ S8x512x256.size a := by
  revert s; decide +kernel

/-- Slot `s` of the landing buffer, as the rectangle at row `s`, -/
abbrev slotR (s : Fin 8) : Rect S8x512x256 := Rect.unit (s := S8x512x256) ![s.val, 0, 0] S1x512x256.size (slot_inb s)
/-- and as the 512 × 256 block the copies address. -/
abbrev slotM (s : Fin 8) : Memref sig .tc .vmem S512x256 .bf16 :=
  (lM.slice (slotR s) (fun _ => rfl)).squeeze S512x256 squeezes_S1x512x256_S512x256

/-! ## Semaphores -/

abbrev barS : Sem sig := (SemArray.scalar (sig.barrier 0 rfl) : Sems sig S_).sem
set_option backward.proofsInPublic true in
/-- Send semaphore `j` and receive semaphore `s`, by their numbers in the pool. -/
def sendQ (j : Fin 8) : DmaSem sig := (⟨3 + j.val, by omega⟩ : Fin 19)
set_option backward.proofsInPublic true in
def recvQ (s : Fin 8) : DmaSem sig := (⟨11 + s.val, by omega⟩ : Fin 19)

theorem send_sem (off : Fin 1 → ℕ) (j : Fin 8) (h : off = ![j.val]) (inb : ∀ a, off a + S1.size a ≤ S8.size a) :
    ((cc0_scratch2.slice (Rect.unit (s := S8) off S1.size inb)).squeeze S_ squeezes_S1_S_).sem = sendQ j := by
  subst h; revert j; decide +kernel
theorem recv_sem (off : Fin 1 → ℕ) (s : Fin 8) (h : off = ![s.val]) (inb : ∀ a, off a + S1.size a ≤ S8.size a) :
    ((cc0_scratch3.slice (Rect.unit (s := S8) off S1.size inb)).squeeze S_ squeezes_S1_S_).sem = recvQ s := by
  subst h; revert s; decide +kernel

abbrev barCell (c : Dev nD) : GSem nD τ sig := ((c : Thread nD τ), .reg barS)
abbrev sendCell (c : Dev nD) (j : Fin 8) : GSem nD τ sig := ((c : Thread nD τ), .dma (sendQ j))
abbrev recvCell (c : Dev nD) (s : Fin 8) : GSem nD τ sig := ((c : Thread nD τ), .dma (recvQ s))

/-- The kernel's own semaphores, sends then receives; -/
abbrev osem : Fin 8 ⊕ Fin 8 → SemLoc sig := fun | .inl j => .dma (sendQ j) | .inr s => .dma (recvQ s)
/-- all of the exchange's: the barrier and those. -/
abbrev CIx : Type := Unit ⊕ (Fin 8 ⊕ Fin 8)
abbrev csem : CIx → SemLoc sig := fun | .inl _ => .reg barS | .inr k => osem k
abbrev xcell (ck : Dev nD × CIx) : GSem nD τ sig := ((ck.1 : Thread nD τ), csem ck.2)

/-- What one copied block is worth on a semaphore. -/
abbrev N : ℕ := (sM : Memref sig .tc .vmem S512x256 .bf16).view.dmaCredit
theorem N_pos : 0 < N := View.dmaCredit_pos _ (by decide)

/-! ## Contents -/

/-- Device `d`'s block of `A` and its copy of `B`, as staged. -/
def blkA (d : Dev nD) : (cc0_stg0_0 : Ref sig .tc).ty.Contents (Elt F) :=
  (win0_0.blk (0 : Fin 1)).view.read (Elt F) ((s₀ m ρ).mem ((d : Thread nD τ).loc main_arg0))
def matB (d : Dev nD) : (cc0_stg1_0 : Ref sig .tc).ty.Contents (Elt F) :=
  (win0_1.blk (0 : Fin 1)).view.read (Elt F) ((s₀ m ρ).mem ((d : Thread nD τ).loc main_arg1))

/-- Slot `s` of device `c`'s landing buffer, at contents `f`; -/
def slotPts (c : Dev nD) (s : Fin 8) (f : Buf (Elt F) ((slotM s).view.loc (c : Thread nD τ))) : sProp 𝕄 :=
  (slotM s).view.loc (c : Thread nD τ) ↦[(slotM s).view.set]{fullShare} f
/-- at any contents; -/
def slotAny (c : Dev nD) (s : Fin 8) : sProp 𝕄 := iprop(∃ f, slotPts c s f)
/-- holding device `s`'s block. -/
def slotFull (c : Dev nD) (s : Fin 8) : sProp 𝕄 :=
  iprop(∃ f, ⌜(slotM s).view.read (Elt F) f = blkA m ρ s⌝ ∗ slotPts c s f)
/-- The send buffer holding the device's own block, at a share. -/
def sendPts (c : Dev nD) (q : PosShare TreeShare) : sProp 𝕄 :=
  (sM : Memref sig .tc .vmem S512x256 .bf16).view.loc (c : Thread nD τ) ↦[(sM : Memref sig .tc .vmem S512x256 .bf16).view.set]{q} blkA m ρ c

omit [FloatOps F] in
instance slotPts_storable (c : Dev nD) (s : Fin 8) (f) : BI.Storable (upEmb : UEmb _ 𝕄) (slotPts (F := F) c s f) := by
  unfold slotPts; infer_instance
omit [FloatOps F] in
instance slotAny_storable (c : Dev nD) (s : Fin 8) : BI.Storable (upEmb : UEmb _ 𝕄) (slotAny (F := F) c s) := by
  unfold slotAny; infer_instance
omit [FloatOps F] in
instance slotFull_storable (c : Dev nD) (s : Fin 8) : BI.Storable (upEmb : UEmb _ 𝕄) (slotFull (F := F) m ρ c s) := by
  unfold slotFull; infer_instance
omit [FloatOps F] in
instance sendPts_storable (c : Dev nD) (q) : BI.Storable (upEmb : UEmb _ 𝕄) (sendPts (F := F) m ρ c q) := by
  unfold sendPts; infer_instance

/-! ## The schedule

One round. The barrier cell of `c` has one unit from every other device `d`, which brings slot `c` of `d`'s landing
buffer. Receive cell `s ≠ c` has one duty, device `s`'s, bringing slot `s` filled. Send cell `j ≠ 0` has one duty,
`c`'s own, bringing back the share of the send buffer the copy read through. Send cell 0 and receive cell `c` are
never used. -/

/-- The duties of round 0 on semaphore `sm` of device `c`. -/
def dutiesAt (c : Fin 8) : SemLoc sig → Finset (Fin 8)
  | .reg _ => Finset.univ.erase c
  | .dma q => if q.val < 4 then ∅ else if h : q.val < 11 then {c} else Finset.univ.filter fun s => 11 + s.val = q.val ∧ s ≠ c

/-- What duty `d` on semaphore `sm` of device `c` hands over. -/
def payAt (c : Fin 8) (d : Fin 8) : SemLoc sig → sProp 𝕄
  | .reg _ => slotAny d c
  | .dma q => if q.val < 11 then sendPts m ρ c (Transfers.shareTokN fullShare (q.val - 3)) else slotFull m ρ c d

def exch : Rounds.Schedule (GSem nD τ sig) (Fin 8) 𝕄 where
  duties g r := if r = 0 ∧ g.1.2 = .tc then dutiesAt g.1.1 g.2 else ∅
  unitless _ := False
  amount g _ _ := match g.2 with | .reg _ => 1 | .dma _ => N
  payload g _ d := payAt m ρ g.1.1 d g.2
  amount_pos g _ _ _ := by
    cases g.2
    · exact Nat.one_pos
    · exact N_pos

instance exch_storable (g : GSem nD τ sig) (r : ℕ) (d : Fin 8) :
    BI.Storable (upEmb : UEmb _ 𝕄) ((exch (F := F) m ρ).payload g r d) := by
  show BI.Storable upEmb (payAt m ρ g.1.1 d g.2)
  rcases g with ⟨t, (q | q)⟩
  · show BI.Storable upEmb (slotAny d t.1); infer_instance
  · show BI.Storable upEmb (if q.val < 11 then _ else _)
    split <;> infer_instance

section Sched
variable (c : Fin 8)

omit [FloatOps F] in
theorem duties_bar : (exch (F := F) m ρ).duties (barCell c) 0 = Finset.univ.erase c := by
  dsimp only [exch]; rw [if_pos ⟨rfl, rfl⟩]; rfl
omit [FloatOps F] in
theorem duties_send (j : Fin 8) (hj : j ≠ 0) : (exch (F := F) m ρ).duties (sendCell c j) 0 = {c} := by
  dsimp only [exch]; rw [if_pos ⟨rfl, rfl⟩]
  show dutiesAt c (.dma (sendQ j)) = {c}
  revert c j; decide +kernel
omit [FloatOps F] in
theorem duties_recv (s : Fin 8) (hs : s ≠ c) : (exch (F := F) m ρ).duties (recvCell c s) 0 = {s} := by
  dsimp only [exch]; rw [if_pos ⟨rfl, rfl⟩]
  show dutiesAt c (.dma (recvQ s)) = {s}
  revert c s; decide +kernel
omit [FloatOps F] in
theorem duties_send0 : (exch (F := F) m ρ).duties (sendCell c 0) 0 = ∅ := by
  dsimp only [exch]; rw [if_pos ⟨rfl, rfl⟩]
  show dutiesAt c (.dma (sendQ 0)) = ∅
  revert c; decide +kernel
omit [FloatOps F] in
theorem duties_own : (exch (F := F) m ρ).duties (recvCell c c) 0 = ∅ := by
  dsimp only [exch]; rw [if_pos ⟨rfl, rfl⟩]
  show dutiesAt c (.dma (recvQ c)) = ∅
  revert c; decide +kernel
omit [FloatOps F] in
theorem duties_later (g : GSem nD τ sig) (r : ℕ) (hr : 1 ≤ r) : (exch (F := F) m ρ).duties g r = ∅ := by
  dsimp only [exch]; exact if_neg fun h => by omega

omit [FloatOps F] in
theorem amount_bar (d : Fin 8) : (exch (F := F) m ρ).amount (barCell c) 0 d = 1 := rfl
omit [FloatOps F] in
theorem amount_send (j d : Fin 8) : (exch (F := F) m ρ).amount (sendCell c j) 0 d = N := rfl
omit [FloatOps F] in
theorem amount_recv (s d : Fin 8) : (exch (F := F) m ρ).amount (recvCell c s) 0 d = N := rfl

omit [FloatOps F] in
theorem expect_bar : (exch (F := F) m ρ).expect (barCell c) 0 = 7 := by
  unfold Schedule.expect Schedule.amountOf
  rw [duties_bar, Finset.sum_congr rfl fun d _ => amount_bar m ρ c d, Finset.sum_const, Finset.card_erase_of_mem (Finset.mem_univ c),
    Finset.card_univ, Fintype.card_fin]; rfl
omit [FloatOps F] in
theorem expect_send (j : Fin 8) (hj : j ≠ 0) : (exch (F := F) m ρ).expect (sendCell c j) 0 = N := by
  unfold Schedule.expect Schedule.amountOf; rw [duties_send m ρ c j hj, Finset.sum_singleton, amount_send]
omit [FloatOps F] in
theorem expect_recv (s : Fin 8) (hs : s ≠ c) : (exch (F := F) m ρ).expect (recvCell c s) 0 = N := by
  unfold Schedule.expect Schedule.amountOf; rw [duties_recv m ρ c s hs, Finset.sum_singleton, amount_recv]

omit [FloatOps F] in
theorem payload_bar (d : Fin 8) : (exch (F := F) m ρ).payload (barCell c) 0 d = slotAny d c := rfl
omit [FloatOps F] in
theorem payload_send (j d : Fin 8) :
    (exch (F := F) m ρ).payload (sendCell c j) 0 d = sendPts m ρ c (Transfers.shareTokN fullShare j.val) := by
  show payAt m ρ c d (.dma (sendQ j)) = _
  dsimp only [payAt]
  rw [if_pos (by show 3 + j.val < 11; omega), show (sendQ j).val - 3 = j.val by show 3 + j.val - 3 = j.val; omega]
omit [FloatOps F] in
theorem payload_recv (s d : Fin 8) : (exch (F := F) m ρ).payload (recvCell c s) 0 d = slotFull m ρ c d := by
  show payAt m ρ c d (.dma (recvQ s)) = _
  dsimp only [payAt]; rw [if_neg (by show ¬ 11 + s.val < 11; omega)]

omit [FloatOps F] in
theorem rest_send (j : Fin 8) (hj : j ≠ 0) :
    bigSep ((exch (F := F) m ρ).duties (sendCell c j) 0 \ ∅) (fun d => (exch (F := F) m ρ).payload (sendCell c j) 0 d)
      = sendPts m ρ c (Transfers.shareTokN fullShare j.val) := by
  rw [Finset.sdiff_empty, duties_send m ρ c j hj, bigSep_singleton, payload_send]
omit [FloatOps F] in
theorem rest_recv (s : Fin 8) (hs : s ≠ c) :
    bigSep ((exch (F := F) m ρ).duties (recvCell c s) 0 \ ∅) (fun d => (exch (F := F) m ρ).payload (recvCell c s) 0 d)
      = slotFull m ρ c s := by
  rw [Finset.sdiff_empty, duties_recv m ρ c s hs, bigSep_singleton, payload_recv]
omit [FloatOps F] in
theorem rest_bar :
    bigSep ((exch (F := F) m ρ).duties (barCell c) 0 \ ∅) (fun d => (exch (F := F) m ρ).payload (barCell c) 0 d)
      = bigSep (Finset.univ.erase c) fun d => slotAny d c := by
  rw [Finset.sdiff_empty, duties_bar]; rfl

end Sched

end Cert.KernelProof

end
-- ==== Proof.Steps.lean ====
/-
The steps of a device's run: a signal, a copy out, a block received and multiplied, a copy out awaited. Each is one
lemma, for every device and every step number.
-/
module

public import proofs.«01_k».proof.Proof.Exchange

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Step numbers -/

/-- The step numbers `1 … 7` still ahead after `k` steps. -/
def ahead (k : ℕ) : Finset (Fin 8) := Finset.univ.filter fun j => k < j.val

theorem ahead_step (r : Fin 7) : ahead r.val = insert r.succ (ahead (r.val + 1)) := by revert r; decide
theorem ahead_new (r : Fin 7) : r.succ ∉ ahead (r.val + 1) := by revert r; decide
theorem ahead_end : ahead 7 = ∅ := by decide
theorem ahead_zero : ahead 0 = Finset.univ.erase 0 := by decide

/-- A loop's resources after `k` of its seven steps: `A j` for the steps taken, `B j` for those ahead. -/
def phase (B A : Fin 8 → sProp 𝕄) (k : ℕ) : sProp 𝕄 :=
  bigSep (Finset.univ.erase 0) fun j => if k < j.val then B j else A j

omit [FloatOps F] in
theorem phase_start (B A : Fin 8 → sProp 𝕄) : phase B A 0 = bigSep (Finset.univ.erase 0) B :=
  bigSep_congr fun j hj => if_pos (Nat.pos_of_ne_zero fun h => (Finset.mem_erase.mp hj).1 (Fin.ext h))
omit [FloatOps F] in
theorem phase_end (B A : Fin 8 → sProp 𝕄) : phase B A 7 = bigSep (Finset.univ.erase 0) A :=
  bigSep_congr fun j _ => if_neg (by omega)
omit [FloatOps F] in
theorem phase_take (B A : Fin 8 → sProp 𝕄) (r : Fin 7) :
    phase B A r.val ⊢ iprop(B r.succ ∗ (A r.succ -∗ phase B A (r.val + 1))) := by
  have hm : r.succ ∈ Finset.univ.erase (0 : Fin 8) := Finset.mem_erase.mpr ⟨Fin.succ_ne_zero r, Finset.mem_univ _⟩
  have hv : r.succ.val = r.val + 1 := rfl
  unfold phase
  rw [bigSep_erase hm, bigSep_erase hm, if_pos (by omega), if_neg (by omega),
    bigSep_congr (s := (Finset.univ.erase (0 : Fin 8)).erase r.succ)
      (fun j hj => show (if r.val < j.val then B j else A j) = if r.val + 1 < j.val then B j else A j from by
        have hne : j.val ≠ r.val + 1 := fun h => (Finset.mem_erase.mp hj).1 (Fin.ext h)
        by_cases h : r.val < j.val
        · rw [if_pos h, if_pos (by omega)]
        · rw [if_neg h, if_neg (by omega)])]
  iintro H
  ihave H' := (Entails.of_eq (rfl : BI.sep _ _ = iprop(_ ∗ _))) $$ H
  icases H' with ⟨HB, HR⟩
  isplitl [HB]; · iexact HB
  iintro HA
  iapply (Entails.of_eq (rfl : iprop(_ ∗ _) = BI.sep _ _))
  isplitl [HA]; · iexact HA
  iexact HR

/-! ## What a device owes; levels -/

/-- The units still owed to the barriers of the devices ahead; the block credits still owed to their receive cells. -/
def owedBar (c : Fin 8) (k : ℕ) : CellTallies nD τ sig Unit := ∑ j ∈ ahead k, tallyAt (barCell (c + j)) () 1
def owedRecv (c : Fin 8) (k : ℕ) : CellTallies nD τ sig Unit := ∑ j ∈ ahead k, tallyAt (recvCell (c + j) c) () N
/-- All of it: what a device owes at launch. -/
def O₀ (c : Dev nD) : CellTallies nD τ sig Unit := owedBar c 0 + owedRecv c 0

theorem owedBar_step (c : Fin 8) (r : Fin 7) : owedBar c r.val = owedBar c (r.val + 1) + tallyAt (barCell (c + r.succ)) () 1 := by
  unfold owedBar; rw [ahead_step, Finset.sum_insert (ahead_new r), add_comm]
theorem owedRecv_step (c : Fin 8) (r : Fin 7) : owedRecv c r.val = owedRecv c (r.val + 1) + tallyAt (recvCell (c + r.succ) c) () N := by
  unfold owedRecv; rw [ahead_step, Finset.sum_insert (ahead_new r), add_comm]
theorem owedBar_end (c : Fin 8) : owedBar c 7 = 0 := by unfold owedBar; rw [ahead_end, Finset.sum_empty]
theorem owedRecv_end (c : Fin 8) : owedRecv c 7 = 0 := by unfold owedRecv; rw [ahead_end, Finset.sum_empty]

theorem sum_tally (S : Finset (Fin 8)) (f : Fin 8 → GSem nD τ sig) (n : ℕ) (g : GSem nD τ sig) (u : Unit) :
    (∑ j ∈ S, tallyAt (f j) () n : CellTallies nD τ sig Unit) g u = ∑ j ∈ S, if g = f j then n else 0 := by
  rw [Finset.sum_apply, Finsupp.finset_sum_apply]
  exact Finset.sum_congr rfl fun j _ => by rw [tallyAt_apply]; exact if_congr (and_iff_left rfl) rfl rfl

theorem sum_tally_pos {S : Finset (Fin 8)} {f : Fin 8 → GSem nD τ sig} {n : ℕ} {g : GSem nD τ sig} {u : Unit}
    (h : 0 < (∑ j ∈ S, tallyAt (f j) () n : CellTallies nD τ sig Unit) g u) : ∃ j, g = f j := by
  rw [sum_tally] at h
  by_contra hn
  rw [Finset.sum_eq_zero fun j _ => if_neg fun e => hn ⟨j, e⟩] at h
  exact Nat.lt_irrefl 0 h

/-- Every TensorCore cell has the one index; -/
def L (g : GSem nD τ sig) : Finset Unit := if g.1.2 = .tc then {()} else ∅
/-- barrier cells at level 1, receive cells at level 2, everything else at 0. -/
def lv (g : GSem nD τ sig) (_ : Unit) : ℕ := match g.2 with | .reg _ => 1 | .dma q => if q.val < 11 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 8) : lv (recvCell c s) () = 2 := by
  show (if 11 + s.val < 11 then 0 else 2) = 2; rw [if_neg (by omega)]

theorem O₀_pos {c : Dev nD} {g : GSem nD τ sig} {u : Unit} (h : 0 < O₀ c g u) :
    (∃ d, g = barCell d) ∨ ∃ d s, g = recvCell d s := by
  unfold O₀ at h
  rw [Pi.add_apply, Finsupp.add_apply] at h
  rcases Nat.add_pos_iff_pos_or_pos.mp h with h | h
  · obtain ⟨j, e⟩ := sum_tally_pos h; exact .inl ⟨_, e⟩
  · obtain ⟨j, e⟩ := sum_tally_pos h; exact .inr ⟨_, _, e⟩

omit [FloatOps F] in
/-- A staging semaphore may be awaited whatever of the launch's debt is open. -/
theorem mayWait_stage (c : Dev nD) (q : DmaSem sig) (hq : q.val < 11) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, s, rfl⟩ <;> exact Finset.mem_singleton_self _)
      (fun p hp => by
        rw [Finset.mem_singleton.mp hp]
        show (if q.val < 11 then 0 else 2) ≤ 0
        rw [if_pos hq])
      (fun g u hg => by
        rcases O₀_pos hg with ⟨d, rfl⟩ | ⟨d, s, rfl⟩
        · exact Nat.one_pos
        · show 0 < lv (recvCell d s) (); rw [lv_recv]; decide)
  · rw [MayWait_zero]; iintro -; iempintro

omit [FloatOps F] in
/-- The barrier is awaited owing only receive credits, which lie above it. -/
theorem mayWait_bar (c : Fin 8) :
    (levAts L lv : sProp 𝕄) ⊢ MayWait ((c : Dev nD) : Thread nD τ) (.reg barS) () (owedRecv c 0) :=
  MayOwe.of_cut (L := L) (lev := lv) 1 (fun p hp => by rw [Finset.mem_singleton.mp hp, L_tc]; exact Finset.mem_singleton_self _)
    (fun g u hg => by obtain ⟨j, rfl⟩ := sum_tally_pos hg; exact Finset.mem_singleton_self _)
    (fun p hp => by rw [Finset.mem_singleton.mp hp]; exact Nat.le_refl 1)
    (fun g u hg => by obtain ⟨j, rfl⟩ := sum_tally_pos hg; show 1 < lv (recvCell _ _) (); rw [lv_recv]; decide)

/-! ## The records every device may consult: each cell's invariant, and that its round 0 is reached -/

def records (K : Dev nD × CIx → ℕ) : sProp 𝕄 :=
  iprop((bigSep Finset.univ fun ck : Dev nD × CIx => cellInv EX (exch m ρ) (K ck) (xcell ck))
    ∗ bigSep Finset.univ fun ck : Dev nD × CIx => reached EX (xcell ck) 0)

instance records_persistent (K : Dev nD × CIx → ℕ) : BI.Persistent (records m ρ K) := by unfold records; infer_instance

omit [FloatOps F] in
theorem inv_at (K : Dev nD × CIx → ℕ) (ck : Dev nD × CIx) : records m ρ K ⊢ cellInv EX (exch m ρ) (K ck) (xcell ck) := by
  unfold records; exact (sep_elim_left).trans (bigSep_elim (Finset.mem_univ ck))
omit [FloatOps F] in
theorem reached_at (K : Dev nD × CIx → ℕ) (ck : Dev nD × CIx) : records m ρ K ⊢ reached EX (xcell ck) 0 := by
  unfold records; exact (sep_elim_right).trans (bigSep_elim (Finset.mem_univ ck))

abbrev kBar (K : Dev nD × CIx → ℕ) (c : Dev nD) : ℕ := K (c, .inl ())
abbrev kSend (K : Dev nD × CIx → ℕ) (c : Dev nD) (j : Fin 8) : ℕ := K (c, .inr (.inl j))
abbrev kRecv (K : Dev nD × CIx → ℕ) (c : Dev nD) (s : Fin 8) : ℕ := K (c, .inr (.inr s))

section Steps
variable (K : Dev nD × CIx → ℕ) (c : Fin 8) {α : Type} {k : PUnit → Prog (TpuEff nD τ sig (Elt F) Λ₀ .tc) α}

theorem ne_add (r : Fin 7) : c ≠ c + r.succ := by revert c r; decide
theorem sub_ne (r : Fin 7) : c - r.succ ≠ c := by revert c r; decide

/-! ## Signals -/

/-- Signal `j` spends its token and slot `c + j` of the device's own landing buffer. -/
def sigB (c : Fin 8) (j : Fin 8) : sProp 𝕄 := iprop(dutyTok EX (barCell (c + j)) 0 c ∗ slotAny c (c + j))
def sigSt (c : Fin 8) (k : ℕ) : sProp 𝕄 :=
  iprop((∃ W, owes ((c : Dev nD) : Thread nD τ) (owedBar c k + owedRecv c 0) W) ∗ phase (sigB c) (fun _ => iprop(emp)) k)

theorem signal_step {Q : α → sProp 𝕄} (r : Fin 7) (n : Dev nD) (hn : (n : Fin 8) = c + r.succ) (k' : ℕ) (hk : k' = 1) :
    iprop(records m ρ K ∗ sigSt (F := F) c r.val)
      ⊢ iprop((sigSt (F := F) c (r.val + 1) -∗ wp frame (wpE (defs₀ (F := F)) 𝒱₀ ((c : Dev nD) : Thread nD τ) none) Set.univ (k ⟨⟩) Q)
          -∗ wp frame (wpE (defs₀ (F := F)) 𝒱₀ ((c : Dev nD) : Thread nD τ) none) Set.univ
              (.op (.semSignal (n : Thread nD τ) barS k') k) Q) := by
  subst hn hk
  unfold sigSt
  iintro ⟨#HR, ⟨%W, HO⟩, HP⟩ Hk
  ihave H := (phase_take (sigB c) (fun _ => iprop(emp)) r) $$ HP
  unfold sigB
  icases H with ⟨⟨Ht, Hs⟩, Hback⟩
  have hd : c ∈ (exch m ρ).duties (barCell (c + r.succ)) 0 := by
    rw [duties_bar]; exact Finset.mem_erase.mpr ⟨ne_add c r, Finset.mem_univ _⟩
  have hO : owedBar c r.val + owedRecv c 0 = owedBar c (r.val + 1) + owedRecv c 0 + tallyAt (barCell (c + r.succ)) () 1 := by
    rw [owedBar_step]; exact add_right_comm _ _ _
  iapply (Rounds.wp_signal 𝒱₀ EX (exch m ρ) ((c : Dev nD) : Thread nD τ) none (dst := ((c + r.succ : Fin 8) : Thread nD τ))
      (O₀ := owedBar c r.val + owedRecv c 0) (κ := kBar K (c + r.succ)) (r := 0) (d := c) (W := W)
      hd (amount_bar m ρ (c + r.succ) c) () (owedBar c (r.val + 1) + owedRecv c 0) hO) $$ [HO Ht Hs]
  · isplitr; · iapply (inv_at m ρ K (c + r.succ, .inl ())); iexact HR
    isplitl [HO]; · iexact HO
    isplitl [Ht]; · iexact Ht
    isplitl [Hs]; · rw [payload_bar]; iexact Hs
    iapply (reached_at m ρ K (c + r.succ, .inl ())); iexact HR
  iintro HO
  iapply Hk
  isplitl [HO]; · iexists W; iexact HO
  iapply Hback
  iempintro

/-! ## Copies out -/

/-- Copy `j` spends its two tokens, slot `c` of device `c + j` and a share of the send buffer; it leaves the credit its
    own send semaphore will be awaited with. -/
def cpyB (c : Fin 8) (j : Fin 8) : sProp 𝕄 :=
  iprop(dutyTok EX (sendCell c j) 0 c ∗ dutyTok EX (recvCell (c + j) c) 0 c ∗ slotAny (c + j) c
    ∗ sendPts m ρ c (Transfers.shareTokN fullShare j.val))
def cpyA (c : Fin 8) (j : Fin 8) : sProp 𝕄 := cred (tallyAt (sendCell c j) () N)
def cpySt (c : Fin 8) (k : ℕ) : sProp 𝕄 :=
  iprop((∃ W, owes ((c : Dev nD) : Thread nD τ) (owedRecv c k) W) ∗ phase (cpyB m ρ c) (cpyA c) k)

omit [FloatOps F] in
/-- A copy's landing leaves the sender's block in the slot. -/
theorem landed_full (d : Fin 8) (fd : Buf (Elt F) ((slotM c).view.loc ((d : Dev nD) : Thread nD τ))) :
    ((slotM c).view.loc ((d : Dev nD) : Thread nD τ) ↦[(slotM c).view.set]{fullShare}
        ((slotM c).view.write (Elt F) fd ((sM : Memref sig .tc .vmem S512x256 .bf16).view.read (Elt F) (blkA m ρ c)) Finset.univ) : sProp 𝕄)
      ⊢ slotFull m ρ d c := by
  unfold slotFull slotPts
  iintro H
  iexists _
  isplitr
  rotate_left
  · iexact H
  · ipureintro
    rw [View.read_write_univ]
    exact View.read_whole _ _

theorem copy_step {Q : α → sProp 𝕄} (r : Fin 7) (n : Dev nD) (hn : (n : Fin 8) = c + r.succ) (off : Fin 3 → ℕ) (ho : off = ![c.val, 0, 0])
    (inb : ∀ a, off a + S1x512x256.size a ≤ S8x512x256.size a) (qs qr : DmaSem sig) (hs : qs = sendQ r.succ) (hr : qr = recvQ c)
    {hsc : ((lM.slice (Rect.unit (s := S8x512x256) off S1x512x256.size inb) (fun _ => rfl)).squeeze S512x256 squeezes_S1x512x256_S512x256 :
      Memref sig (Dev.tc n : Thread nD τ).2.kind .vmem S512x256 .bf16).view.ref.isScScratch = false}
    {hsrc : (sM : Memref sig .tc .vmem S512x256 .bf16).view.WordExact}
    {hdst : ((lM.slice (Rect.unit (s := S8x512x256) off S1x512x256.size inb) (fun _ => rfl)).squeeze S512x256 squeezes_S1x512x256_S512x256 :
      Memref sig .tc .vmem S512x256 .bf16).view.WordExact}
    {hsem : DmaTarget.Typed .vmem (.dma qr) (.remote (Dev.tc n : Thread nD τ)
      ((lM.slice (Rect.unit (s := S8x512x256) off S1x512x256.size inb) (fun _ => rfl)).squeeze S512x256 squeezes_S1x512x256_S512x256 :
        Memref sig .tc .vmem S512x256 .bf16) (.dma qs) hsc)} :
    iprop(records m ρ K ∗ cpySt m ρ c r.val)
      ⊢ iprop((cpySt m ρ c (r.val + 1) -∗ wp frame (wpE (defs₀ (F := F)) 𝒱₀ ((c : Dev nD) : Thread nD τ) none) Set.univ (k ⟨⟩) Q)
          -∗ wp frame (wpE (defs₀ (F := F)) 𝒱₀ ((c : Dev nD) : Thread nD τ) none) Set.univ
              (.op (.enqueueDma sM (.remote (Dev.tc n : Thread nD τ)
                ((lM.slice (Rect.unit (s := S8x512x256) off S1x512x256.size inb) (fun _ => rfl)).squeeze S512x256 squeezes_S1x512x256_S512x256)
                (.dma qs) hsc) (.dma qr) hsrc hdst hsem) k) Q) := by
  subst hn ho hs hr
  unfold cpySt
  iintro ⟨#HR, ⟨%W, HO⟩, HP⟩ Hk
  ihave H := (phase_take (cpyB m ρ c) (cpyA c) r) $$ HP
  unfold cpyB slotAny cpyA
  icases H with ⟨⟨Hts, Htr, ⟨%fd, Hslot⟩, Hsrc⟩, Hback⟩
  unfold slotPts sendPts
  iapply (Rounds.wp_send_pointsTo 𝒱₀ EX (exch m ρ) ((c : Dev nD) : Thread nD τ) none
      (κ₁ := kSend K c r.succ) (κ₂ := kRecv K (c + r.succ) c) (r₁ := 0) (r₂ := 0) (d₁ := c) (d₂ := c) (fd := fd)
      (by rw [duties_send m ρ c _ (Fin.succ_ne_zero r)]; exact Finset.mem_singleton_self _)
      (by rw [duties_recv m ρ (c + r.succ) c (ne_add c r)]; exact Finset.mem_singleton_self _)
      () () N rfl (amount_send m ρ c r.succ c) (amount_recv m ρ (c + r.succ) c c) (owedRecv c (r.val + 1))
      (owedRecv_step c r) (W := W)
      (by rw [payload_send]; exact BI.Entails.refl _)
      (by rw [payload_recv]; exact landed_full m ρ c (c + r.succ) fd)) $$ [Hts Htr Hslot Hsrc HO]
  · isplitr; · iapply (inv_at m ρ K (c, .inr (.inl r.succ))); iexact HR
    isplitr; · iapply (inv_at m ρ K (c + r.succ, .inr (.inr c))); iexact HR
    isplitl [Hsrc]; · iexact Hsrc
    isplitl [Hslot]; · iexact Hslot
    isplitl [HO]; · iexact HO
    isplitl [Hts]; · iexact Hts
    isplitr; · iapply (reached_at m ρ K (c, .inr (.inl r.succ))); iexact HR
    isplitl [Htr]; · iexact Htr
    iapply (reached_at m ρ K (c + r.succ, .inr (.inr c))); iexact HR
  iintro ⟨Hc, HO⟩
  iapply Hk
  isplitl [HO]; · iexists W; iexact HO
  iapply Hback
  iexact Hc

/-! ## Waits -/

/-- Receive step `j` awaits the block of device `c - j`. -/
def rcvB (c : Fin 8) (j : Fin 8) : sProp 𝕄 := iprop(atPos EX (recvCell c (c - j)) 0 ∅ 0 ∗ cred (tallyAt (recvCell c (c - j)) () N))
def rcvA (c : Fin 8) (j : Fin 8) : sProp 𝕄 := iprop(atPos EX (recvCell c (c - j)) (0 + 1) ∅ 0 ∗ slotFull m ρ c (c - j))
/-- Send wait `j` gets the `j`-th share of the send buffer back. -/
def sntB (c : Fin 8) (j : Fin 8) : sProp 𝕄 := iprop(atPos EX (sendCell c j) 0 ∅ 0 ∗ cred (tallyAt (sendCell c j) () N))
def sntA (c : Fin 8) (j : Fin 8) : sProp 𝕄 :=
  iprop(atPos EX (sendCell c j) (0 + 1) ∅ 0 ∗ sendPts m ρ c (Transfers.shareTokN fullShare j.val))

/-- Nothing owed any more. -/
def free (c : Fin 8) : sProp 𝕄 := iprop(∃ W, owes ((c : Dev nD) : Thread nD τ) (0 : CellTallies nD τ sig Unit) W)

theorem recv_wait {Q : α → sProp 𝕄} (r : Fin 7) (q : DmaSem sig) (hq : q = recvQ (c - r.succ)) {sp : Space} (src : Memref sig .tc sp S512x256 .bf16)
    (dst : Memref sig .tc .vmem S512x256 .bf16) (hN : dst.view.dmaCredit = N) {h1 : src.view.WordExact} {h2 : dst.view.WordExact} :
    iprop(records m ρ K ∗ free c ∗ rcvB c r.succ)
      ⊢ iprop(((free c ∗ rcvA m ρ c r.succ) -∗ wp frame (wpE (defs₀ (F := F)) 𝒱₀ ((c : Dev nD) : Thread nD τ) none) Set.univ (k ⟨⟩) Q)
          -∗ wp frame (wpE (defs₀ (F := F)) 𝒱₀ ((c : Dev nD) : Thread nD τ) none) Set.univ
              (.op (.waitDma2 q src dst h1 h2) k) Q) := by
  subst hq
  unfold free rcvB rcvA
  iintro ⟨#HR, ⟨%W, HO⟩, Hat, Hc⟩ Hk
  iapply (Rounds.wp_wait_rest_token 𝒱₀ EX (exch m ρ) ((c : Dev nD) : Thread nD τ) none (κ := kRecv K c (c - r.succ))
      (wpE_waitDma2_eq 𝒱₀ ((c : Dev nD) : Thread nD τ) none Set.univ) (Set.mem_univ _) () (O := 0) (W := W) (R := 0) (m := 0) (T := ∅)
      (by rw [Nat.zero_add, hN, expect_recv m ρ c _ (sub_ne c r)])) $$ [HO Hat Hc]
  · isplitr; · iapply (inv_at m ρ K (c, .inr (.inr (c - r.succ)))); iexact HR
    isplitl [Hc]; · rw [hN]; iexact Hc
    isplitl [HO]; · iexact HO
    isplitr; · rw [MayWait_zero]; iempintro
    iexact Hat
  iintro ⟨HO, Hat, -, Hpay⟩
  ihave Hf := (Entails.of_eq (rest_recv m ρ c _ (sub_ne c r))) $$ Hpay
  iapply Hk
  isplitl [HO]; · iexists _; iexact HO
  isplitl [Hat]; · iexact Hat
  iexact Hf

def sntSt (c : Fin 8) (k : ℕ) : sProp 𝕄 := iprop(free c ∗ phase (sntB c) (sntA m ρ c) k)

theorem sent_step {Q : α → sProp 𝕄} (r : Fin 7) (q : DmaSem sig) (hq : q = sendQ r.succ) {sp : Space} (src : Memref sig .tc sp S512x256 .bf16)
    (dst : Memref sig .tc .vmem S512x256 .bf16) (hN : dst.view.dmaCredit = N) {h1 : src.view.WordExact} {h2 : dst.view.WordExact} :
    iprop(records m ρ K ∗ sntSt m ρ c r.val)
      ⊢ iprop((sntSt m ρ c (r.val + 1) -∗ wp frame (wpE (defs₀ (F := F)) 𝒱₀ ((c : Dev nD) : Thread nD τ) none) Set.univ (k ⟨⟩) Q)
          -∗ wp frame (wpE (defs₀ (F := F)) 𝒱₀ ((c : Dev nD) : Thread nD τ) none) Set.univ
              (.op (.waitDma2 q src dst h1 h2) k) Q) := by
  subst hq
  unfold sntSt free
  iintro ⟨#HR, ⟨%W, HO⟩, HP⟩ Hk
  ihave H := (phase_take (sntB c) (sntA m ρ c) r) $$ HP
  unfold sntB sntA
  icases H with ⟨⟨Hat, Hc⟩, Hback⟩
  iapply (Rounds.wp_wait_rest_token 𝒱₀ EX (exch m ρ) ((c : Dev nD) : Thread nD τ) none (κ := kSend K c r.succ)
      (wpE_waitDma2_eq 𝒱₀ ((c : Dev nD) : Thread nD τ) none Set.univ) (Set.mem_univ _) () (O := 0) (W := W) (R := 0) (m := 0) (T := ∅)
      (by rw [Nat.zero_add, hN, expect_send m ρ c _ (Fin.succ_ne_zero r)])) $$ [HO Hat Hc]
  · isplitr; · iapply (inv_at m ρ K (c, .inr (.inl r.succ))); iexact HR
    isplitl [Hc]; · rw [hN]; iexact Hc
    isplitl [HO]; · iexact HO
    isplitr; · rw [MayWait_zero]; iempintro
    iexact Hat
  iintro ⟨HO, Hat, -, Hpay⟩
  ihave Hf := (Entails.of_eq (rest_send m ρ c _ (Fin.succ_ne_zero r))) $$ Hpay
  iapply Hk
  isplitl [HO]; · iexists _; iexact HO
  iapply Hback
  isplitl [Hat]; · iexact Hat
  iexact Hf

end Steps

end Cert.KernelProof

end
-- ==== Proof.Output.lean ====
/-
The result buffer: slab `s` (512 rows) is the product of device `s`'s block with `B`. What storing one slab does, and
the step that awaits a block, multiplies it and stores its slab.
-/
module

public import proofs.«01_k».proof.Proof.Steps
public import Idealize.ShloMosaic.Lib.Pointwise.Index

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One block's product with `B`, over a zero accumulator. -/
def prod (B : FVec F S256x512 .bf16) (a : FVec F S512x256 .bf16) : FVec F S512x512 .f32 :=
  matmul dot_S512x256_S256x512_S512x512_1_0_0_1_n_n none a B (constant S512x512 .f32 0x00000000#32)

/-- The slab an index of the result lies in. -/
def slab (i : S4096x512.Idx) : Fin 8 := ⟨(i 0).val / 512, by have h : (i 0).val < 4096 := (i 0).isLt; omega⟩
/-- Its place there. -/
def inSlab (i : S4096x512.Idx) : S512x512.Idx := ix2 ⟨(i 0).val % 512, Nat.mod_lt _ (by decide)⟩ (i 1)

/-- Device `c`'s result. -/
def outAt (c : Dev nD) : (cc0_stg2_0 : Ref sig .tc).ty.Contents (Elt F) :=
  fun i : S4096x512.Idx => prod (matB m ρ c) (blkA m ρ (slab i)) (inSlab i)

/-- Contents that are the result's on the slabs in `S`. -/
def agree (c : Dev nD) (S : Finset (Fin 8)) (f : (cc0_stg2_0 : Ref sig .tc).ty.Contents (Elt F)) : Prop :=
  ∀ i : S4096x512.Idx, slab i ∈ S → f i = outAt m ρ c i

/-- The slabs stored after `k` receive steps: the device's own and those of the `k` devices before it. -/
def got (c : Fin 8) (k : ℕ) : Finset (Fin 8) := Finset.univ.filter fun s => (c - s).val ≤ k
theorem got_zero (c : Fin 8) : got c 0 = insert c ∅ := by revert c; decide
theorem got_step (c : Fin 8) (r : Fin 7) : got c (r.val + 1) = insert (c - r.succ) (got c r.val) := by revert c r; decide
theorem got_all (c s : Fin 8) : s ∈ got c 7 := by revert c s; decide

/-- The rectangle of slab `s`. -/
abbrev slabR (off : Fin 2 → ℕ) (inb : ∀ a, off a + S512x512.size a ≤ S4096x512.size a) : Rect S4096x512 :=
  Rect.unit (s := S4096x512) off S512x512.size inb

/-- Storing a slab's product adds the slab to those that agree. -/
theorem stored (c : Dev nD) (s : Fin 8) (off : Fin 2 → ℕ) (ho : off = ![512 * s.val, 0]) (inb : ∀ a, off a + S512x512.size a ≤ S4096x512.size a)
    (S : Finset (Fin 8)) (f : (cc0_stg2_0 : Ref sig .tc).ty.Contents (Elt F)) (hf : agree m ρ c S f) (w : FVec F S512x512 .f32)
    (hw : w = prod (matB m ρ c) (blkA m ρ s)) :
    agree m ρ c (insert s S) ((oM.access (slabR off inb) : View sig .tc _ _ _).write (Elt F) f w Finset.univ) := by
  subst ho hw
  intro i hi
  by_cases hm : i ∈ (oM.access (slabR ![512 * s.val, 0] inb) : View sig .tc _ _ _).set
  · obtain ⟨y, rfl⟩ := View.exists_emb_of_mem_set _ hm
    rw [View.write_emb_of_mem _ _ (Finset.mem_univ y)]
    have h0 : (((oM.access (slabR ![512 * s.val, 0] inb) : View sig .tc _ _ _).emb y : S4096x512.Idx) 0).val = 512 * s.val + 1 * (y 0).val := rfl
    have h1 : (((oM.access (slabR ![512 * s.val, 0] inb) : View sig .tc _ _ _).emb y : S4096x512.Idx) 1).val = 0 + 1 * (y 1).val := rfl
    have hy : (y 0).val < 512 := (y 0).isLt
    have hs : slab ((oM.access (slabR ![512 * s.val, 0] inb) : View sig .tc _ _ _).emb y) = s := by
      apply Fin.ext; show (_ : ℕ) / 512 = _; rw [h0]; omega
    have hp : inSlab ((oM.access (slabR ![512 * s.val, 0] inb) : View sig .tc _ _ _).emb y) = y := by
      refine funext fun a => ?_
      match a with
      | ⟨0, _⟩ =>
        apply Fin.ext
        show (((oM.access (slabR ![512 * s.val, 0] inb) : View sig .tc _ _ _).emb y : S4096x512.Idx) 0).val % 512 = (y 0).val
        rw [h0]; omega
      | ⟨1, _⟩ =>
        apply Fin.ext
        show (((oM.access (slabR ![512 * s.val, 0] inb) : View sig .tc _ _ _).emb y : S4096x512.Idx) 1).val = (y 1).val
        rw [h1]; omega
    unfold outAt; rw [hs, hp]; rfl
  · rw [View.write_of_not_mem _ _ _ (by rw [View.setOn_univ]; exact hm)]
    rcases Finset.mem_insert.mp hi with h | h
    · exfalso; apply hm
      have hset : (oM.access (slabR ![512 * s.val, 0] inb) : View sig .tc _ _ _).set = (slabR ![512 * s.val, 0] inb).set := View.set_slice_whole _ _
      rw [hset]
      refine Rect.mem_set_unit.mpr fun a => ?_
      have h' : (i 0).val / 512 = s.val := congrArg Fin.val h
      match a with
      | ⟨0, _⟩ => show 512 * s.val ≤ (i 0).val ∧ (i 0).val < 512 * s.val + 512; omega
      | ⟨1, _⟩ => have h2 : (i 1).val < 512 := (i 1).isLt; exact ⟨Nat.zero_le _, by show (i 1).val < 0 + 512; omega⟩
    · exact hf i h

section Steps
variable (K : Dev nD × CIx → ℕ) (c : Fin 8) {α : Type} {k : PUnit → Prog (TpuEff nD τ sig (Elt F) Λ₀ .tc) α}

/-- The result buffer, right on the slabs in `S`. -/
def outPts (c : Dev nD) (S : Finset (Fin 8)) : sProp 𝕄 :=
  iprop(∃ f, ⌜agree m ρ c S f⌝ ∗ (((c : Thread nD τ).loc cc0_stg2_0) ↦{fullShare} f))

/-- The load that precedes each store reads nothing that matters; the store adds its slab. -/
theorem slab_step {Q : α → sProp 𝕄} (s : Fin 8) (S : Finset (Fin 8)) (off : Fin 2 → ℕ) (ho : off = ![512 * s.val, 0])
    (inb : ∀ a, off a + S512x512.size a ≤ S4096x512.size a) (w : FVec F S512x512 .f32) (hw : w = prod (matB m ρ c) (blkA m ρ s))
    {hl : (oM : Memref sig .tc .vmem S4096x512 .f32).view.LoadsAt (slabR off inb).toLoadRect} {hx : (oM.access (slabR off inb) : View sig .tc _ _ _).Stores Finset.univ}
    {hm : (Finset.univ : Finset (slabR off inb).shape.Idx) = Finset.univ ∨ ∀ a, (slabR off inb).stride a = 1} :
    outPts m ρ c S
      ⊢ iprop((outPts m ρ c (insert s S) -∗ wp frame (wpE (defs₀ (F := F)) 𝒱₀ ((c : Dev nD) : Thread nD τ) none) Set.univ (k ⟨⟩) Q)
          -∗ wp frame (wpE (defs₀ (F := F)) 𝒱₀ ((c : Dev nD) : Thread nD τ) none) Set.univ
              (.op (.load oM (slabR off inb).toLoadRect hl) fun _ => .op (.store oM (slabR off inb) w Finset.univ hx hm) k) Q) := by
  unfold outPts
  iintro ⟨%f, %hf, Hout⟩ Hk
  iapply (wp_load 𝒱₀ ((c : Dev nD) : Thread nD τ) none Set.univ (m := oM) (Finset.subset_univ _)) $$ Hout; iintro Hout
  iapply (wp_store 𝒱₀ ((c : Dev nD) : Thread nD τ) none Set.univ (m := oM) (r := slabR off inb) (Mk := Finset.univ) (Finset.subset_univ _)) $$ Hout
  iintro Hout
  iapply Hk
  iexists _
  isplitr
  rotate_left
  · iexact Hout
  · ipureintro; exact stored m ρ c s off ho inb S f hf w hw

def rcvSt (c : Fin 8) (k : ℕ) : sProp 𝕄 :=
  iprop(free c ∗ phase (rcvB c) (rcvA m ρ c) k ∗ outPts m ρ c (got c k))

/-- A receive step: the wait, the load of the landed block, its product stored in its slab. -/
theorem recv_step {Q : α → sProp 𝕄} (r : Fin 7) (q : DmaSem sig) (hq : q = recvQ (c - r.succ))
    (off5 off6 : Fin 3 → ℕ) (ho6 : off6 = ![(c - r.succ).val, 0, 0]) (inb5 : ∀ a, off5 a + S1x512x256.size a ≤ S8x512x256.size a)
    (inb6 : ∀ a, off6 a + S1x512x256.size a ≤ S8x512x256.size a)
    (off : Fin 2 → ℕ) (ho : off = ![512 * (c - r.succ).val, 0])
    (inb : ∀ a, off a + S512x512.size a ≤ S4096x512.size a) (w : Vec F S1x512x256 .bf16 → FVec F S512x512 .f32)
    (hw : ∀ v, w v = prod (matB m ρ c) (shapeCast S512x256 v shapeCasts_S1x512x256_S512x256))
    {h1 : (sM : Memref sig .tc .vmem S512x256 .bf16).view.WordExact}
    {h2 : ((lM.slice (Rect.unit (s := S8x512x256) off5 S1x512x256.size inb5) (fun _ => rfl)).squeeze S512x256 squeezes_S1x512x256_S512x256 :
      Memref sig .tc .vmem S512x256 .bf16).view.WordExact}
    {h3 : (lM : Memref sig .tc .vmem S8x512x256 .bf16).view.LoadsAt (Rect.unit (s := S8x512x256) off6 S1x512x256.size inb6).toLoadRect}
    {hl : (oM : Memref sig .tc .vmem S4096x512 .f32).view.LoadsAt (slabR off inb).toLoadRect} {hx : (oM.access (slabR off inb) : View sig .tc _ _ _).Stores Finset.univ}
    {hm : (Finset.univ : Finset (slabR off inb).shape.Idx) = Finset.univ ∨ ∀ a, (slabR off inb).stride a = 1} :
    iprop(records m ρ K ∗ rcvSt m ρ c r.val)
      ⊢ iprop((rcvSt m ρ c (r.val + 1) -∗ wp frame (wpE (defs₀ (F := F)) 𝒱₀ ((c : Dev nD) : Thread nD τ) none) Set.univ (k ⟨⟩) Q)
          -∗ wp frame (wpE (defs₀ (F := F)) 𝒱₀ ((c : Dev nD) : Thread nD τ) none) Set.univ
              (.op (.waitDma2 q sM ((lM.slice (Rect.unit (s := S8x512x256) off5 S1x512x256.size inb5) (fun _ => rfl)).squeeze S512x256 squeezes_S1x512x256_S512x256) h1 h2) fun _ =>
                .op (.load lM (Rect.unit (s := S8x512x256) off6 S1x512x256.size inb6).toLoadRect h3) fun v =>
                .op (.load oM (slabR off inb).toLoadRect hl) fun _ => .op (.store oM (slabR off inb) (w v) Finset.univ hx hm) k) Q) := by
  subst ho6
  have hset : (lM : Memref sig .tc .vmem S8x512x256 .bf16).view.setOn (slotR (c - r.succ)).toLoadRect.set ⊆ (slotM (c - r.succ)).view.set :=
    subset_of_eq (((View.set_reshape _ _).trans (View.set_slice _ _)).symm)
  have hN : ((lM.slice (Rect.unit (s := S8x512x256) off5 S1x512x256.size inb5) (fun _ => rfl)).squeeze S512x256 squeezes_S1x512x256_S512x256 :
      Memref sig .tc .vmem S512x256 .bf16).view.dmaCredit = N := rfl
  unfold rcvSt
  iintro ⟨#HR, HO, HP, Hout⟩ Hk
  ihave H := (phase_take (rcvB c) (rcvA m ρ c) r) $$ HP
  icases H with ⟨HB, Hback⟩
  iapply (recv_wait m ρ K c r q hq sM _ hN) $$ [HO HB]
  · isplitr; · iexact HR
    isplitl [HO] <;> iassumption
  iintro ⟨HO, HA⟩
  unfold rcvA slotFull slotPts
  icases HA with ⟨Hat, %f, %hf, Hslot⟩
  iapply (wp_load 𝒱₀ ((c : Dev nD) : Thread nD τ) none Set.univ (m := lM) (S := (slotM (c - r.succ)).view.set) hset) $$ Hslot
  iintro Hslot
  iapply (slab_step m ρ c (c - r.succ) (got c r.val) off ho inb _ (by
    rw [hw, ← hf]; exact congrArg (prod (matB m ρ c)) (Memref.read_squeeze_slice lM (slotR (c - r.succ)) (fun _ => rfl) _ _ f).symm)) $$ Hout
  iintro Hout
  iapply Hk
  isplitl [HO]; · iexact HO
  isplitr [Hout]
  · iapply Hback
    isplitl [Hat]; · iexact Hat
    iexists f
    isplitr; · ipureintro; exact hf
    iexact Hslot
  · rw [got_step]; iexact Hout

end Steps

end Cert.KernelProof

end
-- ==== Proof.Cells.lean ====
/-
Bookkeeping over the eight devices and their counters: a family over the other devices renumbered by their distance
from one of them, the landing buffer cut into its eight slots and put together again, and the closing of a device's
cells once nothing more is due on them.
-/
module

public import proofs.«01_k».proof.Proof.Output
public import Idealize.ShloMosaic.Lib.Pointwise.Index

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the devices and the cells -/

/-- Counting on from `c`, and back from it. -/
def onFrom (c : Fin 8) : Fin 8 ≃ Fin 8 := ⟨(c + ·), (· - c), by revert c; decide, by revert c; decide⟩
def backFrom (c : Fin 8) : Fin 8 ≃ Fin 8 := ⟨(c - ·), (c - ·), by revert c; decide, by revert c; decide⟩
/-- The other devices, by how far ahead they are, -/
theorem reAdd (c : Fin 8) (Φ : Fin 8 → sProp 𝕄) :
    bigSep (Finset.univ.erase c) Φ = bigSep (Finset.univ.erase 0) fun j => Φ (c + j) := by
  have h : Finset.univ.erase c = (Finset.univ.erase (0 : Fin 8)).map (onFrom c).toEmbedding := by revert c; decide
  rw [h, bigSep_map]; rfl
/-- or by how far behind. -/
theorem reSub (c : Fin 8) (Φ : Fin 8 → sProp 𝕄) :
    bigSep (Finset.univ.erase c) Φ = bigSep (Finset.univ.erase 0) fun j => Φ (c - j) := by
  have h : Finset.univ.erase c = (Finset.univ.erase (0 : Fin 8)).map (backFrom c).toEmbedding := by revert c; decide
  rw [h, bigSep_map]; rfl
theorem atOne (c : Fin 8) (Φ : Fin 8 → sProp 𝕄) : bigSep Finset.univ Φ = iprop(Φ c ∗ bigSep (Finset.univ.erase c) Φ) :=
  bigSep_erase (Finset.mem_univ c)
/-- A device's cells: its barrier, its sends, its receives. -/
theorem eachCell (Φ : CIx → sProp 𝕄) : bigSep Finset.univ Φ
    = iprop(Φ (.inl ()) ∗ (bigSep Finset.univ fun j => Φ (.inr (.inl j))) ∗ bigSep Finset.univ fun s => Φ (.inr (.inr s))) := by
  rw [bigSep_univ_sum, bigSep_univ_sum, show (bigSep Finset.univ fun a : Unit => Φ (.inl a)) = Φ (.inl ()) from bigSep_singleton]
  rfl

/-! ## The landing buffer, slot by slot -/

theorem slot_set (s : Fin 8) : (slotM s).view.set = ((slotR s).set : Finset S8x512x256.Idx) :=
  (View.set_reshape _ _).trans (View.set_slice_whole _ _)
theorem mem_slot {s : Fin 8} {i : S8x512x256.Idx} : i ∈ (slotR s).set ↔ (i 0).val = s.val := by
  rw [Rect.mem_set_unit]
  constructor
  · intro h
    have h0 : s.val ≤ (i 0).val ∧ (i 0).val < s.val + 1 := h 0
    omega
  · intro h a
    have h1 : (i 1).val < 512 := (i 1).isLt
    have h2 : (i 2).val < 256 := (i 2).isLt
    match a with
    | ⟨0, _⟩ => show s.val ≤ (i 0).val ∧ (i 0).val < s.val + 1; omega
    | ⟨1, _⟩ => exact ⟨Nat.zero_le _, by show (i 1).val < 0 + 512; omega⟩
    | ⟨2, _⟩ => exact ⟨Nat.zero_le _, by show (i 2).val < 0 + 256; omega⟩
theorem slots_disjoint (s t : Fin 8) (h : s ≠ t) : Disjoint ((slotR s).set : Finset S8x512x256.Idx) (slotR t).set :=
  Finset.disjoint_left.mpr fun i hs ht => h (Fin.ext ((mem_slot.mp hs).symm.trans (mem_slot.mp ht)))
theorem slots_cover : (Finset.univ : Finset (Fin 8)).biUnion (fun s => ((slotR s).set : Finset S8x512x256.Idx)) = Finset.univ :=
  Finset.eq_univ_iff_forall.mpr fun i => Finset.mem_biUnion.mpr ⟨⟨(i 0).val, (i 0).isLt⟩, Finset.mem_univ _, mem_slot.mpr rfl⟩

theorem slotPts_eq (c : Dev nD) (s : Fin 8) (f : Buf (Elt F) ((c : Thread nD τ).loc cc0_scratch1)) :
    slotPts (F := F) c s f = (((c : Thread nD τ).loc cc0_scratch1) ↦[(slotR s).set]{fullShare} f : sProp 𝕄) := by
  unfold slotPts; rw [slot_set]
theorem slot_any (c : Dev nD) (s : Fin 8) (f : Buf (Elt F) ((c : Thread nD τ).loc cc0_scratch1)) : slotPts (F := F) c s f ⊢ slotAny (F := F) c s := by
  unfold slotAny; iintro H; iexists f; iexact H

/-- The whole buffer is its eight slots, -/
theorem slots_split (c : Dev nD) :
    iprop(∃ f : Buf (Elt F) ((c : Thread nD τ).loc cc0_scratch1), ((c : Thread nD τ).loc cc0_scratch1) ↦{fullShare} f)
      ⊢ bigSep Finset.univ fun s : Fin 8 => slotAny (F := F) c s := by
  iintro ⟨%f, H⟩
  have hm : (bigSep Finset.univ fun s : Fin 8 => slotPts (F := F) c s f) ⊢ bigSep Finset.univ fun s : Fin 8 => slotAny (F := F) c s :=
    bigSep_mono fun s _ => slot_any c s f
  iapply hm
  have h : (bigSep Finset.univ fun s : Fin 8 => slotPts (F := F) c s f)
      = (((c : Thread nD τ).loc cc0_scratch1) ↦{fullShare} f : sProp 𝕄) := by
    have e := pointsTo_biUnion (U := UU) (Lvl := ℕ) (Name := ℕ) (Ix := Unit) (q := fullShare) (f := f)
      (Finset.univ : Finset (Fin 8)) (fun s => (slotR s).set) (fun s _ t _ h => slots_disjoint s t h)
    have e' := (congrArg (fun S => (((c : Thread nD τ).loc cc0_scratch1) ↦[S]{fullShare} f : sProp 𝕄)) slots_cover).symm.trans e
    rw [e']
    exact bigSep_congr fun s _ => slotPts_eq c s f
  rw [h]
  iexact H
/-- and back. -/
theorem slots_join (c : Dev nD) :
    (bigSep Finset.univ fun s : Fin 8 => slotAny (F := F) c s)
      ⊢ iprop(∃ f : Buf (Elt F) ((c : Thread nD τ).loc cc0_scratch1), ((c : Thread nD τ).loc cc0_scratch1) ↦{fullShare} f) := by
  rw [atOne (0 : Fin 8)]
  iintro ⟨H0, H⟩
  unfold slotAny
  icases H0 with ⟨%f₀, H0⟩
  haveI : Nonempty (Buf (Elt F) ((c : Thread nD τ).loc cc0_scratch1)) := ⟨f₀⟩
  have hp := bigSep_exists_pi (Y := fun _ : Fin 8 => Buf (Elt F) ((c : Thread nD τ).loc cc0_scratch1)) (Finset.univ.erase (0 : Fin 8))
    (fun s f => slotPts (F := F) c s f)
  ihave H := hp $$ H
  icases H with ⟨%fs, H⟩
  have e := pointsTo_biUnion_join (U := UU) (Lvl := ℕ) (Name := ℕ) (Ix := Unit) (q := fullShare) (ℓ := (c : Thread nD τ).loc cc0_scratch1)
    (Finset.univ : Finset (Fin 8)) (fun s => (slotR s).set) (fun s => if s = 0 then f₀ else fs s) f₀ (fun s _ t _ h => slots_disjoint s t h)
  have e' : (bigSep Finset.univ fun s : Fin 8 => (((c : Thread nD τ).loc cc0_scratch1) ↦[(slotR s).set]{fullShare} (if s = 0 then f₀ else fs s) : sProp 𝕄))
      = iprop(slotPts (F := F) c 0 f₀ ∗ bigSep (Finset.univ.erase (0 : Fin 8)) fun s => slotPts (F := F) c s (fs s)) := by
    rw [atOne (0 : Fin 8), if_pos rfl]
    rw [slotPts_eq, bigSep_congr (s := Finset.univ.erase (0 : Fin 8)) (fun s hs => show _ = slotPts (F := F) c s (fs s) by
      rw [if_neg (Finset.mem_erase.mp hs).1, slotPts_eq])]
  ihave H' := (Entails.of_eq e'.symm) $$ [H0 H]
  · isplitl [H0] <;> iassumption
  ihave H := e $$ H'
  icases H with ⟨%g, -, H⟩
  iexists g
  have hc := congrArg (fun S => (((c : Thread nD τ).loc cc0_scratch1) ↦[S]{fullShare} g : sProp 𝕄)) slots_cover
  iapply (Entails.of_eq hc)
  iexact H

/-! ## Closing a device's cells -/

/-- A cell with no duty ahead of the device's place in it. -/
def closable (g : GSem nD τ sig) : sProp 𝕄 := iprop(∃ R, ⌜∀ r, R ≤ r → (exch (F := F) m ρ).duties g r = ∅⌝ ∗ atPos EX g R ∅ 0)

theorem closable_later (g : GSem nD τ sig) : atPos EX g (0 + 1) ∅ 0 ⊢ closable (F := F) m ρ g := by
  unfold closable
  iintro H; iexists (0 + 1)
  isplitr; · ipureintro; exact duties_later m ρ g
  iexact H
theorem closable_unused (g : GSem nD τ sig) (h : (exch (F := F) m ρ).duties g 0 = ∅) : atPos EX g 0 ∅ 0 ⊢ closable (F := F) m ρ g := by
  unfold closable
  iintro H; iexists 0
  isplitr
  · ipureintro; intro r _
    rcases Nat.eq_zero_or_pos r with rfl | hr
    · exact h
    · exact duties_later m ρ g r hr
  iexact H

/-- One cell closes, -/
theorem close_one (K : Dev nD × CIx → ℕ) (ck : Dev nD × CIx) :
    iprop(records m ρ K ∗ closable (F := F) m ρ (xcell ck)) ⊢ iprop(|={Set.univ}=> semVal (xcell ck) 0) := by
  unfold closable
  iintro ⟨#HR, %R, %h, Hat⟩
  iapply (Rounds.cell_close EX (exch m ρ) (Set.mem_univ (K ck)) (fun h => h) (R := R) h)
  isplitr; · iapply (inv_at m ρ K ck); iexact HR
  iexact Hat
/-- and so all of a device's do. -/
theorem close_all (K : Dev nD × CIx → ℕ) (c : Dev nD) :
    iprop(records m ρ K ∗ bigSep Finset.univ fun k : CIx => closable (F := F) m ρ (xcell (c, k)))
      ⊢ iprop(|={Set.univ}=> bigSep Finset.univ fun k : CIx => semVal (xcell (c, k)) 0) := by
  iintro ⟨#HR, H⟩
  ihave HRs := (bigSep_of_persistent (Finset.univ : Finset CIx) (records m ρ K)) $$ HR
  ihave HH := (Entails.of_eq (bigSep_sep' (Finset.univ : Finset CIx) (fun _ => records m ρ K) (fun k => closable (F := F) m ρ (xcell (c, k)))).symm) $$ [HRs H]
  · isplitl [HRs] <;> iassumption
  have hm : (bigSep Finset.univ fun k : CIx => iprop(records m ρ K ∗ closable (F := F) m ρ (xcell (c, k))))
      ⊢ bigSep Finset.univ fun k : CIx => iprop(|={Set.univ}=> semVal (xcell (c, k)) 0) :=
    bigSep_mono fun k _ => close_one m ρ K (c, k)
  ihave HC := hm $$ HH
  iapply (bigSep_fupd (Finset.univ : Finset CIx) (fun k => semVal (xcell (c, k)) 0)) $$ HC

end Cert.KernelProof

end
-- ==== Proof.Body.lean ====
/-
One device's whole run: what it starts from, what it ends with, and the program between, the seven steps of each of its
four loops taken by the step lemmas.
-/
module

public import proofs.«01_k».proof.Proof.Cells

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- Its ghost state: the records, its places in its cells, the tokens of the duties it pays. -/
def ghost (K : Dev nD × CIx → ℕ) (c : Fin 8) : sProp 𝕄 :=
  iprop(records m ρ K ∗ (bigSep Finset.univ fun k : CIx => atPos EX (xcell (c, k)) 0 ∅ 0)
    ∗ (bigSep (Finset.univ.erase 0) fun j : Fin 8 => dutyTok EX (barCell (c + j)) 0 c)
    ∗ (bigSep (Finset.univ.erase 0) fun j : Fin 8 => dutyTok EX (sendCell c j) 0 c)
    ∗ (bigSep (Finset.univ.erase 0) fun j : Fin 8 => dutyTok EX (recvCell (c + j) c) 0 c))
/-- The credit it awaits with: its barrier's seven units, a block on each of its receive cells. -/
def credits (c : Fin 8) : sProp 𝕄 :=
  iprop(cred (tallyAt (barCell c) () 7) ∗ bigSep (Finset.univ.erase c) fun s : Fin 8 => cred (tallyAt (recvCell c s) () N))
def start (c : Dev nD) : sProp 𝕄 := iprop((∃ K, ghost m ρ K c) ∗ credits c ∗ levAts L lv)

/-- The two scratch buffers at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
def Φ₁ (c : Dev nD) : sProp 𝕄 := iprop(scratch c ∗ bigSep Finset.univ fun k : CIx => semVal (xcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => blkA m ρ c
    | ⟨1, _⟩ => matB m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetched (w : Fin cfg0.W) (hw : w.val < 2) (t : Fin cfg0.N) : (cfg0.win w).fetch t = true := by
  rw [fin_N0 t]
  obtain ⟨w, h⟩ := w
  have h2 : w = 0 ∨ w = 1 := by have h2 : w < 2 := hw; omega
  rcases h2 with rfl | rfl <;> rfl

theorem owned_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The program -/

section Body
variable (K : Dev nD × CIx → ℕ)

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credits c ∗ levAts L lv ∗ scratch c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ
    ∗ stg c cc0_stg0_0 (blkA m ρ c) ∗ stg c cc0_stg1_0 (matB m ρ c) ∗ stg c cc0_stg2_0 (outAt m ρ c))

theorem zero2 : (![0, 0] : Fin 2 → ℕ) = fun _ => 0 := funext fun a => by fin_cases a <;> rfl
theorem read_aM (f : (cc0_stg0_0 : Ref sig .tc).ty.Contents (Elt F)) :
    (aM : Memref sig .tc .vmem S512x256 .bf16).view.readAt (Elt F) (Rect.unit (s := S512x256) ![0, 0] S512x256.size inb_S512x256_S512x256_0_0).toLoadRect f = f :=
  Memref.readAt_unit_zero (Elt F) cc0_stg0_0 zero2 _ f
theorem read_bM (f : (cc0_stg1_0 : Ref sig .tc).ty.Contents (Elt F)) :
    (bM : Memref sig .tc .vmem S256x512 .bf16).view.readAt (Elt F) (Rect.unit (s := S256x512) ![0, 0] S256x512.size inb_S256x512_S256x512_0_0).toLoadRect f = f :=
  Memref.readAt_unit_zero (Elt F) cc0_stg1_0 zero2 _ f
theorem read_sM (f : (cc0_scratch0 : Ref sig .tc).ty.Contents (Elt F)) :
    (sM : Memref sig .tc .vmem S512x256 .bf16).view.readAt (Elt F) (Rect.unit (s := S512x256) ![0, 0] S512x256.size inb_S512x256_S512x256_0_0).toLoadRect f = f :=
  Memref.readAt_unit_zero (Elt F) cc0_scratch0 zero2 _ f
theorem write_sM (f w : (cc0_scratch0 : Ref sig .tc).ty.Contents (Elt F)) :
    (sM.access (Rect.unit (s := S512x256) ![0, 0] S512x256.size inb_S512x256_S512x256_0_0) : View sig .tc _ _ _).write (Elt F) f w Finset.univ = w :=
  Memref.write_access_unit_zero_univ (Elt F) cc0_scratch0 zero2 _ f w
theorem pay1_eq (v : Vec F S512x256 .bf16) : k0_pay1 v = v := by unfold k0_pay1; simp only [shapeCast_self]
theorem pay2_eq (v : Vec F S256x512 .bf16) : k0_pay2 v = v := by unfold k0_pay2; simp only [shapeCast_self]

theorem sendPts_eq (c : Dev nD) (q : PosShare TreeShare) :
    sendPts (F := F) m ρ c q = (((c : Thread nD τ).loc cc0_scratch0) ↦[Finset.univ]{q} blkA m ρ c : sProp 𝕄) := by
  unfold sendPts; rw [View.set_whole]

/-- The send buffer's shares: what stays, token 0, and the seven the copies read through. -/
theorem send_split (c : Dev nD) : sendPts (F := F) m ρ c fullShare
    ⊢ iprop(sendPts m ρ c (Transfers.shareDrop fullShare 8) ∗ sendPts m ρ c (Transfers.shareTokN fullShare 0)
      ∗ bigSep (Finset.univ.erase (0 : Fin 8)) fun j => sendPts m ρ c (Transfers.shareTokN fullShare j.val)) := by
  refine (Transfers.pointsTo_toks_split fullShare 8).trans ?_
  rw [atOne (0 : Fin 8)]
  exact BI.Entails.refl _
theorem send_join (c : Dev nD) : iprop(sendPts m ρ c (Transfers.shareDrop fullShare 8) ∗ sendPts m ρ c (Transfers.shareTokN fullShare 0)
      ∗ bigSep (Finset.univ.erase (0 : Fin 8)) fun j => sendPts m ρ c (Transfers.shareTokN fullShare j.val))
    ⊢ sendPts (F := F) m ρ c fullShare := by
  refine BI.Entails.trans ?_ (Transfers.pointsTo_toks_join fullShare 8)
  rw [atOne (0 : Fin 8)]
  exact BI.Entails.refl _

/-- Every place the run leaves a device at in its cells lets the cell close. -/
theorem cells_closable (c : Fin 8) :
    iprop(atPos EX (barCell c) (0 + 1) ∅ 0 ∗ atPos EX (sendCell c 0) 0 ∅ 0 ∗ (bigSep (Finset.univ.erase (0 : Fin 8)) fun j => atPos EX (sendCell c j) (0 + 1) ∅ 0)
        ∗ atPos EX (recvCell c c) 0 ∅ 0 ∗ bigSep (Finset.univ.erase (0 : Fin 8)) fun j => atPos EX (recvCell c (c - j)) (0 + 1) ∅ 0)
      ⊢ bigSep Finset.univ fun k : CIx => closable (F := F) m ρ (xcell (c, k)) := by
  have hs : (bigSep (Finset.univ.erase (0 : Fin 8)) fun j => atPos EX (sendCell c j) (0 + 1) ∅ 0)
      ⊢ bigSep (Finset.univ.erase (0 : Fin 8)) fun j => closable (F := F) m ρ (sendCell c j) := bigSep_mono fun j _ => closable_later m ρ _
  have hr : (bigSep (Finset.univ.erase (0 : Fin 8)) fun j => atPos EX (recvCell c (c - j)) (0 + 1) ∅ 0)
      ⊢ bigSep (Finset.univ.erase (0 : Fin 8)) fun j => closable (F := F) m ρ (recvCell c (c - j)) := bigSep_mono fun j _ => closable_later m ρ _
  rw [eachCell, atOne 0, atOne c, reSub c]
  iintro ⟨HB, HS0, HS, HR0, HR⟩
  isplitl [HB]; · iapply (closable_later m ρ (barCell c)); iexact HB
  isplitl [HS0 HS]
  · isplitl [HS0]; · iapply (closable_unused m ρ (sendCell c 0) (duties_send0 m ρ c)); iexact HS0
    iapply hs; iexact HS
  isplitl [HR0]; · iapply (closable_unused m ρ (recvCell c c) (duties_own m ρ c)); iexact HR0
  iapply hr; iexact HR

/-- The slots received and the device's own make the landing buffer whole. -/
theorem landing_whole (c : Fin 8) :
    iprop(slotAny (F := F) c c ∗ bigSep (Finset.univ.erase (0 : Fin 8)) fun j => slotFull m ρ c (c - j))
      ⊢ iprop(∃ f : Buf (Elt F) (((c : Dev nD) : Thread nD τ).loc cc0_scratch1), (((c : Dev nD) : Thread nD τ).loc cc0_scratch1) ↦{fullShare} f) := by
  have hf : ∀ s : Fin 8, slotFull m ρ c s ⊢ slotAny (F := F) c s := fun s => by
    unfold slotFull slotAny; iintro ⟨%f, -, H⟩; iexists f; iexact H
  have hm : (bigSep (Finset.univ.erase (0 : Fin 8)) fun j => slotFull m ρ c (c - j))
      ⊢ bigSep (Finset.univ.erase (0 : Fin 8)) fun j => slotAny (F := F) c (c - j) := bigSep_mono fun j _ => hf _
  have hj := slots_join (F := F) c
  rw [atOne c, reSub c] at hj
  iintro ⟨H0, H⟩
  iapply hj
  isplitl [H0]; · iexact H0
  iapply hm; iexact H

set_option maxHeartbeats 4000000 in
set_option maxRecDepth 65536 in
theorem sound_body (c : Fin 8) (Kt : PUnit → sProp 𝕄) :
    iprop(bodyPre m ρ K c ∗ (bodyPost m ρ c -∗ Kt ⟨⟩))
      ⊢ wp frame (wpE (defs₀ (F := F)) 𝒱₀ ((c : Dev nD) : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton, cc0_body_skel, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton, k0_part10_eq_skeleton,
    k0_part11_eq_skeleton, k0_part12_eq_skeleton, k0_part13_eq_skeleton, k0_part1_skel, k0_part2_skel, k0_part3_skel, k0_part4_skel,
    k0_part5_skel, k0_part6_skel, k0_part7_skel, k0_part8_skel, k0_part9_skel, k0_part10_skel, k0_part11_skel, k0_part12_skel, k0_part13_skel,
    semSignalWord, semWaitWord, Prog.lift, Prog.bind_op, Prog.bind_ret, Prog.pure_eq_ret, wp_deviceId]
  unfold bodyPre ghost credits scratch
  iintro ⟨⟨⟨⟨#HR, Hpos, HtB, HtS, HtR⟩, ⟨HcB, HcR⟩, #Hlev, ⟨%fs, Hsend⟩, Hland⟩,
    Ho, ⟨%d0, %g0, %hg0, HA⟩, ⟨%d1, %g1, %hg1, HB⟩, ⟨%d2, %g2, %hg2, Hout⟩⟩, Hk⟩
  have ha : g0 = blkA m ρ c := by rw [hg0]; unfold Dat.before; rw [if_pos (fetched 0 (by decide) t0_0)]; rfl
  have hb : g1 = matB m ρ c := by rw [hg1]; unfold Dat.before; rw [if_pos (fetched 1 (by decide) t0_0)]; rfl
  subst ha hb
  unfold Dat.owesAt Pipeline.owesWithin
  icases Ho with ⟨%W, %hW, HO⟩
  rw [show (dats m ρ 0 c).owed t0_0.castSucc = owedBar c 0 + owedRecv c 0 from rfl]
  -- its places in its cells
  ihave Hpos := (Entails.of_eq (eachCell fun k : CIx => atPos EX (xcell (c, k)) 0 ∅ 0)) $$ Hpos
  icases Hpos with ⟨HpB, HpS, HpR⟩
  ihave HpS := (Entails.of_eq (atOne 0 fun j => atPos EX (sendCell c j) 0 ∅ 0)) $$ HpS
  ihave HpR := (Entails.of_eq (atOne c fun s => atPos EX (recvCell c s) 0 ∅ 0)) $$ HpR
  icases HpS with ⟨HpS0, HpS⟩
  icases HpR with ⟨HpR0, HpR⟩
  -- the landing buffer's slots go out with the signals, its own kept
  ihave Hland := (slots_split c) $$ Hland
  ihave Hland := (Entails.of_eq (atOne c fun s => slotAny (F := F) c s)) $$ Hland
  icases Hland with ⟨Hown, Hland⟩
  ihave Hland := (Entails.of_eq (reAdd c fun s => slotAny (F := F) c s)) $$ Hland
  ihave HS : sigSt c 0 $$ [HO HtB Hland]
  · unfold sigSt
    isplitl [HO]; · iexists W; iexact HO
    rw [phase_start]; unfold sigB; rw [bigSep_sep']
    isplitl [HtB] <;> iassumption
  iapply (signal_step m ρ K c 0 _ (sig1 c) _ (by decide)) $$ [HS]
  · isplitr; · iexact HR
    iexact HS
  iintro HS
  iapply (signal_step m ρ K c 1 _ (sig2 c) _ (by decide)) $$ [HS]
  · isplitr; · iexact HR
    iexact HS
  iintro HS
  iapply (signal_step m ρ K c 2 _ (sig3 c) _ (by decide)) $$ [HS]
  · isplitr; · iexact HR
    iexact HS
  iintro HS
  iapply (signal_step m ρ K c 3 _ (sig4 c) _ (by decide)) $$ [HS]
  · isplitr; · iexact HR
    iexact HS
  iintro HS
  iapply (signal_step m ρ K c 4 _ (sig5 c) _ (by decide)) $$ [HS]
  · isplitr; · iexact HR
    iexact HS
  iintro HS
  iapply (signal_step m ρ K c 5 _ (sig6 c) _ (by decide)) $$ [HS]
  · isplitr; · iexact HR
    iexact HS
  iintro HS
  iapply (signal_step m ρ K c 6 _ (sig7 c) _ (by decide)) $$ [HS]
  · isplitr; · iexact HR
    iexact HS
  iintro HS
  -- the barrier
  ihave HS : sigSt (F := F) c 7 $$ [HS]
  · iexact HS
  unfold sigSt
  icases HS with ⟨⟨%W1, HO⟩, -⟩
  iapply (Rounds.wp_wait_rest_token 𝒱₀ EX (exch m ρ) ((c : Dev nD) : Thread nD τ) none (κ := kBar K c)
      (wpE_semWait_eq 𝒱₀ ((c : Dev nD) : Thread nD τ) none Set.univ) (Set.mem_univ _) () (O := owedRecv c 0) (W := W1) (R := 0) (m := 0) (T := ∅)
      (by rw [expect_bar]; decide)) $$ [HcB HO HpB]
  · isplitr; · iapply (inv_at m ρ K (c, .inl ())); iexact HR
    isplitl [HcB]; · iexact HcB
    isplitl [HO]; · iapply (Entails.of_eq (congrArg (fun O => owes ((c : Dev nD) : Thread nD τ) O W1) (show owedBar c 7 + owedRecv c 0 = owedRecv c 0 by rw [owedBar_end, zero_add]))); iexact HO
    isplitr; · iapply (mayWait_bar c); iexact Hlev
    iexact HpB
  iintro ⟨HO, HpB, -, Hpay⟩
  ihave Hpeers := (Entails.of_eq (rest_bar m ρ c)) $$ Hpay
  ihave Hpeers := (Entails.of_eq (reAdd c fun d => slotAny (F := F) d c)) $$ Hpeers
  -- the block into the send buffer
  iapply (wp_load 𝒱₀ ((c : Dev nD) : Thread nD τ) none Set.univ (m := aM) (Finset.subset_univ _)) $$ HA; iintro HA
  rw [read_aM]
  iapply (wp_load 𝒱₀ ((c : Dev nD) : Thread nD τ) none Set.univ (m := sM) (Finset.subset_univ _)) $$ Hsend; iintro Hsend
  iapply (wp_store 𝒱₀ ((c : Dev nD) : Thread nD τ) none Set.univ (m := sM) (r := Rect.unit (s := S512x256) ![0, 0] S512x256.size inb_S512x256_S512x256_0_0)
    (Mk := Finset.univ) (Finset.subset_univ _)) $$ Hsend
  iintro Hsend
  rw [write_sM, pay1_eq]
  ihave Hsend := (Entails.of_eq (sendPts_eq m ρ c fullShare).symm) $$ Hsend
  ihave Hsend := (send_split m ρ c) $$ Hsend
  icases Hsend with ⟨Hkeep, Htok0, Hsend⟩
  ihave HS : cpySt m ρ c 0 $$ [HO HtS HtR Hpeers Hsend]
  · unfold cpySt
    isplitl [HO]; · iexists _; iexact HO
    rw [phase_start]; unfold cpyB; rw [bigSep_sep', bigSep_sep', bigSep_sep']
    isplitl [HtS]; · iexact HtS
    isplitl [HtR]; · iexact HtR
    isplitl [Hpeers] <;> iassumption
  iapply (copy_step m ρ K c 0 _ (cpy1 c) _ (k0_off2_eq c) _ _ _ (send_sem _ 1 rfl _) (recv_sem _ c (k0_off1_eq c) _)) $$ [HS]
  · isplitr; · iexact HR
    iexact HS
  iintro HS
  iapply (copy_step m ρ K c 1 _ (cpy2 c) _ (k0_off2_eq c) _ _ _ (send_sem _ 2 rfl _) (recv_sem _ c (k0_off1_eq c) _)) $$ [HS]
  · isplitr; · iexact HR
    iexact HS
  iintro HS
  iapply (copy_step m ρ K c 2 _ (cpy3 c) _ (k0_off2_eq c) _ _ _ (send_sem _ 3 rfl _) (recv_sem _ c (k0_off1_eq c) _)) $$ [HS]
  · isplitr; · iexact HR
    iexact HS
  iintro HS
  iapply (copy_step m ρ K c 3 _ (cpy4 c) _ (k0_off2_eq c) _ _ _ (send_sem _ 4 rfl _) (recv_sem _ c (k0_off1_eq c) _)) $$ [HS]
  · isplitr; · iexact HR
    iexact HS
  iintro HS
  iapply (copy_step m ρ K c 4 _ (cpy5 c) _ (k0_off2_eq c) _ _ _ (send_sem _ 5 rfl _) (recv_sem _ c (k0_off1_eq c) _)) $$ [HS]
  · isplitr; · iexact HR
    iexact HS
  iintro HS
  iapply (copy_step m ρ K c 5 _ (cpy6 c) _ (k0_off2_eq c) _ _ _ (send_sem _ 6 rfl _) (recv_sem _ c (k0_off1_eq c) _)) $$ [HS]
  · isplitr; · iexact HR
    iexact HS
  iintro HS
  iapply (copy_step m ρ K c 6 _ (cpy7 c) _ (k0_off2_eq c) _ _ _ (send_sem _ 7 rfl _) (recv_sem _ c (k0_off1_eq c) _)) $$ [HS]
  · isplitr; · iexact HR
    iexact HS
  iintro HS
  ihave HS : cpySt m ρ c 7 $$ [HS]
  · iexact HS
  unfold cpySt
  icases HS with ⟨⟨%W2, HO⟩, HcS⟩
  ihave HcS := (Entails.of_eq (phase_end _ _)) $$ HcS
  -- its own slab
  iapply (wp_load 𝒱₀ ((c : Dev nD) : Thread nD τ) none Set.univ (m := bM) (Finset.subset_univ _)) $$ HB; iintro HB
  rw [read_bM, pay2_eq]
  ihave Hkeep := (Entails.of_eq (sendPts_eq m ρ c _)) $$ Hkeep
  iapply (wp_load 𝒱₀ ((c : Dev nD) : Thread nD τ) none Set.univ (m := sM) (Finset.subset_univ _)) $$ Hkeep; iintro Hkeep
  rw [read_sM]
  ihave Hkeep := (Entails.of_eq (sendPts_eq m ρ c _).symm) $$ Hkeep
  ihave HS : outPts m ρ c ∅ $$ [Hout]
  · unfold outPts
    iexists g2
    isplitr; · ipureintro; exact fun i hi => absurd hi (Finset.notMem_empty _)
    iexact Hout
  iapply (slab_step m ρ c c ∅ _ (k0_off3_eq c) _ _ rfl) $$ HS
  iintro Hout
  ihave HcR := (Entails.of_eq (reSub c fun s => cred (tallyAt (recvCell c s) () N))) $$ HcR
  ihave HpR := (Entails.of_eq (reSub c fun s => atPos EX (recvCell c s) 0 ∅ 0)) $$ HpR
  ihave HS : rcvSt m ρ c 0 $$ [HO HcR HpR Hout]
  · unfold rcvSt free
    rw [got_zero, phase_start]; unfold rcvB; rw [bigSep_sep']
    isplitl [HO]; · iexists W2; iapply (Entails.of_eq (congrArg (fun O => owes ((c : Dev nD) : Thread nD τ) O W2) (owedRecv_end c))); iexact HO
    isplitr [Hout]
    · isplitl [HpR] <;> iassumption
    · iexact Hout
  iapply (recv_step m ρ K c 0 _ (recv_sem _ _ (off4_eq c 0) _) _ _ (off6_eq c 0) _ _ _ (off7_eq c 0) _ _ (fun v => rfl)) $$ [HS]
  · isplitr; · iexact HR
    iexact HS
  iintro HS
  iapply (recv_step m ρ K c 1 _ (recv_sem _ _ (off4_eq c 1) _) _ _ (off6_eq c 1) _ _ _ (off7_eq c 1) _ _ (fun v => rfl)) $$ [HS]
  · isplitr; · iexact HR
    iexact HS
  iintro HS
  iapply (recv_step m ρ K c 2 _ (recv_sem _ _ (off4_eq c 2) _) _ _ (off6_eq c 2) _ _ _ (off7_eq c 2) _ _ (fun v => rfl)) $$ [HS]
  · isplitr; · iexact HR
    iexact HS
  iintro HS
  iapply (recv_step m ρ K c 3 _ (recv_sem _ _ (off4_eq c 3) _) _ _ (off6_eq c 3) _ _ _ (off7_eq c 3) _ _ (fun v => rfl)) $$ [HS]
  · isplitr; · iexact HR
    iexact HS
  iintro HS
  iapply (recv_step m ρ K c 4 _ (recv_sem _ _ (off4_eq c 4) _) _ _ (off6_eq c 4) _ _ _ (off7_eq c 4) _ _ (fun v => rfl)) $$ [HS]
  · isplitr; · iexact HR
    iexact HS
  iintro HS
  iapply (recv_step m ρ K c 5 _ (recv_sem _ _ (off4_eq c 5) _) _ _ (off6_eq c 5) _ _ _ (off7_eq c 5) _ _ (fun v => rfl)) $$ [HS]
  · isplitr; · iexact HR
    iexact HS
  iintro HS
  iapply (recv_step m ρ K c 6 _ (recv_sem _ _ (off4_eq c 6) _) _ _ (off6_eq c 6) _ _ _ (off7_eq c 6) _ _ (fun v => rfl)) $$ [HS]
  · isplitr; · iexact HR
    iexact HS
  iintro HS
  ihave HS : rcvSt m ρ c 7 $$ [HS]
  · iexact HS
  unfold rcvSt
  icases HS with ⟨HO, HpR, Hout⟩
  ihave HpR := (Entails.of_eq (phase_end _ _)) $$ HpR
  ihave HS : sntSt m ρ c 0 $$ [HO HcS HpS]
  · unfold sntSt
    isplitl [HO]; · iexact HO
    rw [phase_start]; unfold sntB; rw [bigSep_sep']
    isplitl [HpS]; · iexact HpS
    iexact HcS
  iapply (sent_step m ρ K c 0 _ (send_sem _ 1 rfl _) _ _ rfl) $$ [HS]
  · isplitr; · iexact HR
    iexact HS
  iintro HS
  iapply (sent_step m ρ K c 1 _ (send_sem _ 2 rfl _) _ _ rfl) $$ [HS]
  · isplitr; · iexact HR
    iexact HS
  iintro HS
  iapply (sent_step m ρ K c 2 _ (send_sem _ 3 rfl _) _ _ rfl) $$ [HS]
  · isplitr; · iexact HR
    iexact HS
  iintro HS
  iapply (sent_step m ρ K c 3 _ (send_sem _ 4 rfl _) _ _ rfl) $$ [HS]
  · isplitr; · iexact HR
    iexact HS
  iintro HS
  iapply (sent_step m ρ K c 4 _ (send_sem _ 5 rfl _) _ _ rfl) $$ [HS]
  · isplitr; · iexact HR
    iexact HS
  iintro HS
  iapply (sent_step m ρ K c 5 _ (send_sem _ 6 rfl _) _ _ rfl) $$ [HS]
  · isplitr; · iexact HR
    iexact HS
  iintro HS
  iapply (sent_step m ρ K c 6 _ (send_sem _ 7 rfl _) _ _ rfl) $$ [HS]
  · isplitr; · iexact HR
    iexact HS
  iintro HS
  ihave HS : sntSt m ρ c 7 $$ [HS]
  · iexact HS
  unfold sntSt
  icases HS with ⟨HO, HpS⟩
  ihave HpS := (Entails.of_eq (phase_end _ _)) $$ HpS
  unfold sntA rcvA
  ihave HpS := (Entails.of_eq (bigSep_sep' _ _ _)) $$ HpS
  ihave HpR := (Entails.of_eq (bigSep_sep' _ _ _)) $$ HpR
  icases HpS with ⟨HpS, Hsend⟩
  icases HpR with ⟨HpR, Hland⟩
  -- every cell closes
  ihave HC : (bigSep Finset.univ fun k : CIx => closable (F := F) m ρ (xcell (c, k))) $$ [HpB HpS0 HpS HpR0 HpR]
  · iapply (cells_closable m ρ c)
    isplitl [HpB]; · iexact HpB
    isplitl [HpS0]; · iexact HpS0
    isplitl [HpS]; · iexact HpS
    isplitl [HpR0] <;> iassumption
  imod (close_all m ρ K c) $$ [HC] with HV
  · isplitr; · iexact HR
    iexact HC
  -- and the buffers are whole again
  ihave Hs : sendPts m ρ c fullShare $$ [Hkeep Htok0 Hsend]
  · iapply (send_join m ρ c)
    isplitl [Hkeep]; · iexact Hkeep
    isplitl [Htok0] <;> iassumption
  ihave Hs := (Entails.of_eq (sendPts_eq m ρ c fullShare)) $$ Hs
  ihave Hl := (landing_whole m ρ c) $$ [Hown Hland]
  · isplitl [Hown] <;> iassumption
  unfold free outPts
  icases HO with ⟨%W4, HO⟩
  icases Hout with ⟨%g, %hg, Hout⟩
  have hout : g = outAt m ρ c := funext fun i => hg i (got_all c _)
  rw [wp_ret]; imodintro
  iapply Hk
  unfold bodyPost Φ₁ scratch Dat.owesAt Pipeline.owesWithin
  rw [show (dats m ρ 0 c).owed t0_0.succ = 0 from rfl]
  isplitl [Hs Hl HV]
  · isplitl [Hs Hl]
    · isplitl [Hs]; · iexists _; iexact Hs
      iexact Hl
    iexact HV
  isplitl [HO]
  · iexists W4
    isplitr; · ipureintro; exact fun _ _ => Or.inl trivial
    iexact HO
  isplitl [HA]
  · iexists _; isplitr; · ipureintro; rfl
    iexact HA
  isplitl [HB]
  · iexists _; isplitr; · ipureintro; rfl
    iexact HB
  iexists g; isplitr; · ipureintro; exact hout
  iexact Hout

/-- What the loop hands the body. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owned_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m ρ c)
  unfold bodyPre' Φ₀ start
  iintro ⟨⟨⟨⟨%K, Hg⟩, Hc, Hl⟩, Hs⟩, Hrest⟩
  iapply (sound_body m ρ K c fun _ => bodyPost m ρ c)
  unfold bodyPre
  isplitr []
  · isplitl [Hg Hc Hl Hs]
    · isplitl [Hg]; · iexact Hg
      isplitl [Hc]; · iexact Hc
      isplitl [Hl] <;> iassumption
    iexact Hrest
  · iintro H; iexact H

end Body

end Cert.KernelProof

end
-- ==== Proof.Run.lean ====
/-
The launch: every device's cells set up and its tokens dealt, the credit each device starts with, and the run of the
whole program.
-/
module

public import proofs.«01_k».proof.Proof.Body
public import Idealize.ShloMosaic.Lib.Pipeline.CollectiveSegs
public import Idealize.ShloMosaic.Lib.Pipeline.ValueKit.Geometry

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem own_sems : Pipeline.OwnSemFacts cfg0.spec osem := by decide

theorem csem_inj : Function.Injective csem := by decide
theorem xcell_inj : Function.Injective (xcell : Dev nD × CIx → GSem nD τ sig) := fun a b h =>
  Prod.ext (congrArg (fun g : GSem nD τ sig => g.1.1) h) (csem_inj (congrArg Prod.snd h))
def allCells : Finset (GSem nD τ sig) := Finset.univ.map ⟨xcell, xcell_inj⟩

/-- The cell device `c` pays at: the barrier of the device `j` ahead, its own send cell `j`, the receive cell `c` of the
    device `j` ahead. -/
def paid (c : Fin 8) : Fin 3 × Fin 8 → Fin 8 × CIx
  | (0, j) => (c + j, .inl ())
  | (1, j) => (c, .inr (.inl j))
  | (2, j) => (c + j, .inr (.inr c))
theorem paid_inj (c : Fin 8) : Function.Injective (paid c) := by revert c; decide +kernel
/-- Every duty by its payer. -/
abbrev tokOf (x : Dev nD × Fin 3 × Fin 8) : GSem nD τ sig × ℕ × Fin 8 := (xcell (paid x.1 x.2), 0, x.1)
theorem tokOf_inj : Function.Injective tokOf := by
  rintro ⟨c, k⟩ ⟨d, l⟩ h
  have hc : c = d := congrArg (fun x : GSem nD τ sig × ℕ × Fin 8 => x.2.2) h
  subst hc
  exact Prod.ext rfl (paid_inj c (xcell_inj (congrArg Prod.fst h)))
def allToks : Finset (GSem nD τ sig × ℕ × Fin 8) := Finset.univ.map ⟨tokOf, tokOf_inj⟩

def u₀ : UU := (initOf (Pipeline.cells cfgs cellOf_inj) (Pipeline.launchToks cfgs cellOf_inj), initOf allCells allToks)

/-- The tokens device `c` pays with, of one kind, -/
abbrev toks (c : Dev nD) (k : Fin 3) : sProp 𝕄 := bigSep Finset.univ fun j : Fin 8 => dutyTok EX (xcell (paid c (k, j))) 0 c
/-- what the launch element gives device `c`, -/
def G (c : Dev nD) : sProp 𝕄 :=
  iprop((bigSep Finset.univ fun k : CIx => roundState EX (exch m ρ) (xcell (c, k)) 0)
    ∗ (bigSep Finset.univ fun k : CIx => atPos EX (xcell (c, k)) 0 ∅ 0)
    ∗ (bigSep Finset.univ fun k : CIx => reached EX (xcell (c, k)) 0) ∗ bigSep Finset.univ fun k : Fin 3 => toks c k)
/-- and what the device starts with. -/
def G' (c : Dev nD) : sProp 𝕄 := iprop(∃ K, ghost m ρ K c)

theorem fund : BI.own (EX (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CIx => Φ (xcell (c, k)) := by
    unfold allCells; rw [bigSep_map, bigSep_univ_prod]; rfl
  have hT : bigSep allToks (fun x => (dutyTok EX x.1 x.2.1 x.2.2 : sProp 𝕄)) = bigSep Finset.univ fun c : Dev nD => bigSep Finset.univ fun k : Fin 3 => toks c k := by
    unfold allToks; rw [bigSep_map, bigSep_univ_prod]
    exact bigSep_congr fun c _ => by rw [bigSep_univ_prod]; rfl
  iintro HX
  imod (Rounds.fund EX (exch m ρ) allCells allToks) $$ HX with ⟨Hst, Hr, Hat, Htok⟩
  imodintro
  unfold G; simp only [bigSep_sep']
  isplitl [Hst]; · iapply (Entails.of_eq (hX fun g => roundState EX (exch m ρ) g 0)); iexact Hst
  isplitl [Hat]; · iapply (Entails.of_eq (hX fun g => atPos EX g 0 ∅ 0)); iexact Hat
  isplitl [Hr]; · iapply (Entails.of_eq (hX fun g => reached EX g 0)); iexact Hr
  iapply (Entails.of_eq hT); iexact Htok

/-! ## One step for all devices: the invariants allocated, the records shared -/

/-- A device's counters: the barrier semaphore is the launch's, the others the kernel's own. -/
theorem counters (c : Dev nD) :
    iprop(unscopedSems0 c ∗ Pipeline.ownSems0 (Ix := Unit) (Name := ℕ) (U := UU) (Lvl := ℕ) (Val := Elt F) (τ := τ) osem c)
      = (bigSep Finset.univ fun k : CIx => semVal (xcell (c, k)) 0 : sProp 𝕄) := by
  have hu : (unscopedSems0 c : sProp 𝕄) = semVal (barCell c) 0 := by
    unfold unscopedSems0; rw [bigSep_eq_bigSepL_of_eq [SemLoc.reg barS] (by decide) (by decide)]; rfl
  rw [hu, bigSep_univ_sum, show (bigSep Finset.univ fun a : Unit => (semVal (xcell (c, .inl a)) 0 : sProp 𝕄)) = semVal (barCell c) 0 from bigSep_singleton]
  rfl

theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CIx => iprop(∃ κ : ℕ, cellInv EX (exch m ρ) κ (xcell (c, k))))
          ∗ (bigSep Finset.univ fun k : CIx => atPos EX (xcell (c, k)) 0 ∅ 0)
          ∗ (bigSep Finset.univ fun k : CIx => reached EX (xcell (c, k)) 0) ∗ bigSep Finset.univ fun k : Fin 3 => toks c k) := by
  have hcell : (bigSep Finset.univ fun k : CIx => iprop(semVal (xcell (c, k)) 0 ∗ roundState EX (exch m ρ) (xcell (c, k)) 0))
      ⊢ (|={Set.univ}=> bigSep Finset.univ fun k : CIx => iprop(∃ κ : ℕ, cellInv EX (exch m ρ) κ (xcell (c, k))) : sProp 𝕄) :=
    (bigSep_mono fun k _ => (Rounds.body_intro EX (exch m ρ) (xcell (c, k))).trans inv_alloc).trans (bigSep_fupd _ _)
  unfold G
  iintro ⟨Hos, Hus, Hst, Hrest⟩
  imod hcell $$ [Hos Hus Hst] with HI
  · iapply (Entails.of_eq (bigSep_sep' (Finset.univ : Finset CIx) (fun k => semVal (xcell (c, k)) 0) (fun k => roundState EX (exch m ρ) (xcell (c, k)) 0)).symm)
    isplitr [Hst]
    · iapply (Entails.of_eq (counters (F := F) c))
      isplitl [Hus] <;> iassumption
    · iexact Hst
  imodintro
  isplitl [HI]; · iexact HI
  iexact Hrest

theorem toks_drop (c : Dev nD) (k : Fin 3) : toks (F := F) c k ⊢ bigSep (Finset.univ.erase (0 : Fin 8)) fun j => dutyTok EX (xcell (paid c (k, j))) 0 c := by
  unfold toks
  rw [atOne (0 : Fin 8)]
  iintro ⟨-, H⟩; iexact H

/-- With the records, what stayed with a device is all it starts with. -/
theorem ghost_intro (K : Dev nD × CIx → ℕ) (c : Dev nD) :
    iprop(records m ρ K ∗ (bigSep Finset.univ fun k : CIx => atPos EX (xcell (c, k)) 0 ∅ 0) ∗ bigSep Finset.univ fun k : Fin 3 => toks c k) ⊢ G' m ρ c := by
  rw [show (bigSep Finset.univ fun k : Fin 3 => toks (F := F) c k) = iprop(toks c 0 ∗ toks c 1 ∗ toks c 2) from
    bigSep_univ_eq_bigSepL [0, 1, 2] (by decide) (by decide) _]
  unfold G' ghost
  iintro ⟨#HR, Hat, H0, H1, H2⟩
  iexists K
  isplitr; · iexact HR
  isplitl [Hat]; · iexact Hat
  isplitl [H0]; · iapply (toks_drop c 0); iexact H0
  isplitl [H1]; · iapply (toks_drop c 1); iexact H1
  iapply (toks_drop c 2); iexact H2

theorem share_records (K : Dev nD × CIx → ℕ) (Φ : Dev nD → sProp 𝕄) (h : ∀ c, iprop(records m ρ K ∗ Φ c) ⊢ G' m ρ c) :
    iprop(records m ρ K ∗ bigSep Finset.univ Φ) ⊢ bigSep Finset.univ (G' m ρ) := by
  have hm : (bigSep Finset.univ fun c : Dev nD => iprop(records m ρ K ∗ Φ c)) ⊢ bigSep Finset.univ (G' m ρ) := bigSep_mono fun c _ => h c
  iintro ⟨#HR, H⟩
  ihave HRs := (bigSep_of_persistent (Finset.univ : Finset (Dev nD)) (records m ρ K)) $$ HR
  iapply hm
  iapply (Entails.of_eq (bigSep_sep' (Finset.univ : Finset (Dev nD)) (fun _ => records m ρ K) Φ).symm)
  isplitl [HRs] <;> iassumption

theorem deal :
    (bigSep Finset.univ fun c : Dev nD => iprop((bigSep Finset.univ fun k : CIx => iprop(∃ κ : ℕ, cellInv EX (exch m ρ) κ (xcell (c, k))))
          ∗ (bigSep Finset.univ fun k : CIx => atPos EX (xcell (c, k)) 0 ∅ 0)
          ∗ (bigSep Finset.univ fun k : CIx => reached EX (xcell (c, k)) 0) ∗ bigSep Finset.univ fun k : Fin 3 => toks c k) : sProp 𝕄)
      ⊢ bigSep Finset.univ (G' m ρ) := by
  rw [bigSep_sep', bigSep_sep', bigSep_sep',
    ← bigSep_univ_prod (fun ck : Dev nD × CIx => (iprop(∃ κ : ℕ, cellInv EX (exch m ρ) κ (xcell ck)) : sProp 𝕄)),
    ← bigSep_univ_prod (fun ck : Dev nD × CIx => (reached EX (xcell ck) 0 : sProp 𝕄))]
  iintro ⟨HI, Hat, #HR, Htok⟩
  ihave HK := (bigSep_exists_pi Finset.univ (fun (ck : Dev nD × CIx) (κ : ℕ) => (cellInv EX (exch m ρ) κ (xcell ck) : sProp 𝕄))) $$ HI
  icases HK with ⟨%K, #HI⟩
  iapply (share_records m ρ K (fun c => iprop((bigSep Finset.univ fun k : CIx => atPos EX (xcell (c, k)) 0 ∅ 0) ∗ bigSep Finset.univ fun k : Fin 3 => toks c k))
    fun c => ghost_intro m ρ K c)
  isplitr
  · unfold records; isplitl; · iexact HI
    iexact HR
  · iapply (Entails.of_eq (bigSep_sep' (Finset.univ : Finset (Dev nD)) (fun c => bigSep Finset.univ fun k : CIx => atPos EX (xcell (c, k)) 0 ∅ 0)
      (fun c => bigSep Finset.univ fun k : Fin 3 => toks c k)).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (deal m ρ))

/-! ## The credit the devices start with -/

theorem bar_iff {a b : Fin 8} : barCell a = barCell b ↔ a = b :=
  ⟨fun h => congrArg (fun g : GSem nD τ sig => g.1.1) h, fun h => h ▸ rfl⟩
theorem recv_iff {a b s t : Fin 8} : recvCell a s = recvCell b t ↔ a = b ∧ s = t := by
  constructor
  · intro h
    have e := xcell_inj (a₁ := (a, .inr (.inr s))) (a₂ := (b, .inr (.inr t))) h
    exact ⟨congrArg Prod.fst e, Sum.inr.inj (Sum.inr.inj (congrArg Prod.snd e))⟩
  · rintro ⟨rfl, rfl⟩; rfl
theorem bar_ne_recv (a b s : Fin 8) : barCell a ≠ recvCell b s := fun h => by cases congrArg Prod.snd h

/-- The devices together owe a barrier seven units, -/
theorem owed_bar (c : Fin 8) : (∑ d : Dev nD, O₀ d (barCell c) ()) = 7 := by
  have h : ∀ d : Fin 8, O₀ d (barCell c) () = ∑ j ∈ ahead 0, if c = d + j then 1 else 0 := fun d => by
    unfold O₀ owedBar owedRecv
    rw [Pi.add_apply, Finsupp.add_apply, sum_tally, sum_tally, Finset.sum_eq_zero (s := ahead 0) (f := fun j => if barCell c = recvCell (d + j) d then N else 0)
      fun j _ => if_neg (bar_ne_recv _ _ _), Nat.add_zero]
    exact Finset.sum_congr rfl fun j _ => if_congr bar_iff rfl rfl
  rw [Finset.sum_congr rfl fun d _ => h d]
  clear h; revert c; decide +kernel
/-- and a receive cell one block. -/
theorem owed_recv (c s : Fin 8) (hs : s ≠ c) : (∑ d : Dev nD, O₀ d (recvCell c s) ()) = N := by
  have h : ∀ d : Fin 8, O₀ d (recvCell c s) () = (∑ j ∈ ahead 0, if c = d + j ∧ s = d then 1 else 0) * N := fun d => by
    unfold O₀ owedBar owedRecv
    rw [Pi.add_apply, Finsupp.add_apply, sum_tally, sum_tally, Finset.sum_eq_zero (s := ahead 0) (f := fun j => if recvCell c s = barCell (d + j) then 1 else 0)
      fun j _ => if_neg (bar_ne_recv _ _ _).symm, Nat.zero_add, Finset.sum_mul]
    exact Finset.sum_congr rfl fun j _ => by rw [ite_mul, Nat.one_mul, Nat.zero_mul]; exact if_congr recv_iff rfl rfl
  rw [Finset.sum_congr rfl fun d _ => h d, ← Finset.sum_mul,
    show (∑ d : Dev nD, ∑ j ∈ ahead 0, if c = (d : Fin 8) + j ∧ s = d then 1 else 0) = 1 by clear h; revert c s; decide +kernel, Nat.one_mul]

theorem launch_on (g : GSem nD τ sig) (n : ℕ) (h : (∑ d : Dev nD, O₀ d g ()) = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

def recvEmb : Fin 8 ↪ SemLoc sig := ⟨fun s => .dma (recvQ s), by decide⟩
theorem creds (c : Fin 8) : (Pipeline.launchCred O₀ c : sProp 𝕄) ⊢ credits c := by
  have hsub : (Finset.univ.erase c).map recvEmb ⊆ (Finset.univ : Finset (SemLoc sig)).erase (.reg barS) := fun x hx => by
    obtain ⟨s, -, rfl⟩ := Finset.mem_map.mp hx
    exact Finset.mem_erase.mpr ⟨fun h => (nomatch h), Finset.mem_univ _⟩
  have hr : bigSep ((Finset.univ.erase c).map recvEmb) (fun sm => (cred (tallyOn ((c : Thread nD τ), sm) (launchCredit (Pipeline.owing O₀) 0 ((c : Thread nD τ), sm))) : sProp 𝕄))
      = bigSep (Finset.univ.erase c) fun s : Fin 8 => cred (tallyAt (recvCell c s) () N) := by
    rw [bigSep_map]
    exact bigSep_congr fun s hs => congrArg cred (launch_on (recvCell c s) N (owed_recv c s (Finset.mem_erase.mp hs).1))
  unfold Pipeline.launchCred credits
  rw [bigSep_univ_at _ (SemLoc.reg barS), launch_on (barCell c) 7 (owed_bar c), ← hr]
  exact sep_mono_right (bigSep_subset hsub)

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [← counters]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-- The three arrays of device `c` after the run. -/
def final (c : Dev nD) (w : Fin cfg0.W) : Buf (Elt F) ((cfg0.win w).arr.view.loc (c : Thread nD τ)) := (dats m ρ 0 c).arrAt w cfg0.N

def Done : PUnit × MemSt nD τ sig (Elt F) → Prop := fun r =>
  ∀ c : Dev nD, ∀ w : Fin cfg0.W, r.2.mem ((cfg0.win w).arr.view.loc (c : Thread nD τ)) = final m ρ c w

set_option maxRecDepth 8000 in
/-- From any memory with zero counters every fair execution ends, each device's arrays at `final` and every counter at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold after -/

theorem final_A (c : Dev nD) : final m ρ c (0 : Fin 3) = (s₀ m ρ).mem (win0_0.arr.view.loc (c : Thread nD τ)) :=
  (dats (F := F) m ρ 0 c).arrAt_in (0 : Fin 3) rfl _
theorem final_B (c : Dev nD) : final m ρ c (1 : Fin 3) = (s₀ m ρ).mem (win0_1.arr.view.loc (c : Thread nD τ)) :=
  (dats (F := F) m ρ 0 c).arrAt_in (1 : Fin 3) rfl _
theorem final_O (c : Dev nD) : final m ρ c (2 : Fin 3) = outAt m ρ c :=
  (dats (F := F) m ρ 0 c).arrAt_eq_of_after_last (2 : Fin 3) t0_0 (by decide +kernel) _ fun _ => rfl

/-- A device's staged blocks are its arguments whole. -/
theorem blkA_eq (d : Dev nD) : blkA m ρ d = m ((d : Thread nD τ).loc main_arg0) := by
  funext i
  refine congrArg (m ((d : Thread nD τ).loc main_arg0)) (funext fun a => Fin.ext ?_)
  match a with
  | ⟨0, _⟩ => show 0 * 512 + 1 * (i 0).val = (i 0).val; omega
  | ⟨1, _⟩ => show 0 * 256 + 1 * (i 1).val = (i 1).val; omega
theorem matB_eq (d : Dev nD) : matB m ρ d = m ((d : Thread nD τ).loc main_arg1) := by
  funext i
  refine congrArg (m ((d : Thread nD τ).loc main_arg1)) (funext fun a => Fin.ext ?_)
  match a with
  | ⟨0, _⟩ => show 0 * 256 + 1 * (i 0).val = (i 0).val; omega
  | ⟨1, _⟩ => show 0 * 512 + 1 * (i 1).val = (i 1).val; omega

/-- The run, read at the program's arguments and result. -/
theorem run_whole (g : Dev nD → PrngReg) :
    θ_run defs (onTc (τ := τ) (main (F := F))) ⟨m, fun _ => 0, g⟩ (fun r => (∀ c : Dev nD,
      r.2.mem ((c.tc : Thread nD τ).loc main_v1)
          = (fun i : S4096x512.Idx => prod (m ((c.tc : Thread nD τ).loc main_arg1)) (m ((Dev.tc (τ := τ) (slab i)).loc main_arg0)) (inSlab i))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := F)) _ _).mono (fun r h => ⟨fun c =>
    ⟨(h.1 c (2 : Fin 3)).trans ((final_O m g c).trans (funext fun i => by
        show prod (matB m g c) (blkA m g (slab i)) (inSlab i) = _
        rw [matB_eq, blkA_eq])),
      (h.1 c (0 : Fin 3)).trans (final_A m g c), (h.1 c (1 : Fin 3)).trans (final_B m g c)⟩, h.2⟩) (run_main m g)

end Cert.KernelProof

end
-- ==== Proof.IdealRun.lean ====
/-
The same program printed for the ideal values. No operation of it was rewritten, so its text is the kernel's and the
two body tables and entry points are equal terms; the run shown once for any float values is therefore its run too.
-/
module

public import proofs.«01_k».proof.Proof.Run
public import proofs.«01_k».proof.Proof.Gen.KernelIdeal

@[expose] public section

noncomputable section

namespace Cert.KernelProof

open Idealize.ShloMosaic Idealize.ShloMosaic.TcCoe Idealize.SL.Sem

variable {F : FTy → Type} [FloatOps F]

/-- The two programs' tables of kernel bodies agree: one label each, whose bodies are the same text. -/
theorem bodies_same : Cert.KernelIdeal.defs₀ (F := F) = Cert.Kernel.defs₀ (F := F) := by
  unfold Cert.KernelIdeal.defs₀ Cert.Kernel.defs₀
  refine congrArg Defs.onTc ?_
  funext l x
  match l, x with
  | ⟨0, _⟩, (t, s) => rfl
  | ⟨n + 1, h⟩, _ => exact absurd h (Nat.not_lt.2 (Nat.le_add_left _ _))

/-- So do the tables with the launch's own labels added. -/
theorem defs_same : Cert.KernelIdeal.defs (F := F) = Cert.Kernel.defs (F := F) := by
  unfold Cert.KernelIdeal.defs Cert.Kernel.defs
  rw [bodies_same]
  rfl

/-- The run of the program read at the ideal values: each device's result is, slab by slab, its copy of `B` multiplied
    by the block of the device the slab is named after; the arguments stay; every counter is back at zero. -/
theorem run_ideal (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F)))
      ⟨m, fun _ => 0, g⟩ (fun r => (∀ c : Dev Cert.KernelIdeal.nD,
        r.2.mem ((c.tc : Thread Cert.KernelIdeal.nD Cert.KernelIdeal.τ).loc Cert.KernelIdeal.main_v1)
            = (fun i : Cert.Kernel.S4096x512.Idx =>
                prod (m ((c.tc : Thread Cert.KernelIdeal.nD Cert.KernelIdeal.τ).loc Cert.KernelIdeal.main_arg1))
                  (m ((Dev.tc (τ := Cert.KernelIdeal.τ) (slab i)).loc Cert.KernelIdeal.main_arg0)) (inSlab i))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) := by
  rw [defs_same]
  exact run_whole m g

end Cert.KernelProof

end
-- ==== Proof.Value.lean ====
/-
At the ideal values the slabs put together are the product of the whole matrix with `B`: an entry of the product is a
sum over the shared coordinate, and it only reads the row its own device holds.
-/
module

public import proofs.«01_k».proof.Proof.Output
public import proofs.«01_k».proof.Proof.Gen.ReferenceIdeal
public import Idealize.ShloMosaic.Lib.KernelVsHost
public import Idealize.ShloMosaic.Lib.StackMember
public import Idealize.ShloMosaic.Lib.LayoutAt
public import Idealize.ShloMosaic.Lib.Pointwise.IndexBridge
public import Idealize.ShloMosaic.PureOps.Ideal

@[expose] public section

noncomputable section

namespace Cert.KernelProof

open Idealize.ShloMosaic Idealize.SL.Sem

/-- The product of the whole matrix with `B`, as the reference writes it. -/
def whole (A : FVec Ideal Cert.ReferenceIdeal.S4096x256 .bf16) (B : FVec Ideal Cert.ReferenceIdeal.S256x512 .bf16) :
    FVec Ideal Cert.ReferenceIdeal.S4096x512 .f32 :=
  extf .f32 (truncf .bf16 (Host.dotGeneral Cert.ReferenceIdeal.dot_S4096x256_S256x512_S4096x512_1_0_0_1_n_n none A B)
    Cert.ReferenceIdeal.Facts₀.bitsLt_bf16_f32) Cert.ReferenceIdeal.Facts₀.bitsLt_bf16_f32

/-- An entry of a slab's product is the sum over the 256 shared coordinates. -/
theorem prod_entry (B : FVec Ideal Cert.Kernel.S256x512 .bf16) (a : FVec Ideal Cert.Kernel.S512x256 .bf16)
    (p : Fin 512) (q : Fin 512) : prod B a (ix2 p q) = ∑ k : Fin 256, a (ix2 p k) * B (ix2 k q) := by
  unfold prod
  rw [matmul_zero_eq_dotGeneral]
  simp only [ix2_eq_valueIdx]
  exact StackMember.dotGeneral_plain_apply none a B p q

/-- An entry of the whole product is the same sum: the two changes of format leave an ideal value as it is. -/
theorem whole_entry (A : FVec Ideal Cert.ReferenceIdeal.S4096x256 .bf16)
    (B : FVec Ideal Cert.ReferenceIdeal.S256x512 .bf16) (p : Fin 4096) (q : Fin 512) :
    whole A B (ix2 p q) = ∑ k : Fin 256, A (ix2 p k) * B (ix2 k q) := by
  simp only [ix2_eq_valueIdx]
  exact StackMember.dotGeneral_plain_apply none A B p q

/-- Row `p` of device `c`'s block is row `512 c + p` of the whole matrix. -/
theorem block_row (A : FVec Ideal Cert.ReferenceIdeal.S4096x256 .bf16) (i : Cert.Kernel.S4096x512.Idx) (k : Fin 256) :
    Layout.block ⟨2, ![512, 256]⟩ ⟨2, ![4096, 256]⟩ 0 8 (slab i) A
      (by decide) (ix2 ⟨(i 0).val % 512, Nat.mod_lt _ (by decide)⟩ k) = A (ix2 (i 0) k) := by
  rw [Layout.block_apply]
  congr 1
  funext b
  refine Fin.ext ?_
  rw [Layout.Tiles.idx_val]
  match b with
  | ⟨0, _⟩ => exact (Nat.div_add_mod' (i 0).val 512)
  | ⟨1, _⟩ => rfl

/-- Slab by slab, the products of the blocks are the whole product. -/
theorem slabs_whole (A : FVec Ideal Cert.ReferenceIdeal.S4096x256 .bf16)
    (B : FVec Ideal Cert.ReferenceIdeal.S256x512 .bf16) :
    (fun i : Cert.Kernel.S4096x512.Idx =>
      prod B (Layout.block ⟨2, ![512, 256]⟩ ⟨2, ![4096, 256]⟩ 0 8 (slab i) A) (inSlab i)) = whole A B := by
  funext i
  have hi : whole A B i = ∑ k : Fin 256, A (ix2 (i 0) k) * B (ix2 k (i 1)) :=
    (congrArg (whole A B) (show i = ix2 (i 0) (i 1) from by
      funext b; match b with | ⟨0, _⟩ => rfl | ⟨1, _⟩ => rfl)).trans (whole_entry A B (i 0) (i 1))
  rw [hi]
  refine (prod_entry B _ ⟨(i 0).val % 512, Nat.mod_lt _ (by decide)⟩ (i 1)).trans ?_
  exact Finset.sum_congr rfl fun k _ => congrArg (· * B (ix2 k (i 1))) (block_row A i k)

end Cert.KernelProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.IdealRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel ends, its arguments as they were and its counters at zero: the run with the result left out. -/
theorem frame_kernel : Cert.quiescent_Kernel := fun m g _ =>
  (θ_run _ _ _).mono (fun _ h => ⟨fun c => (h.1 c).2, h.2⟩) (Cert.KernelProof.run_whole m g)

/-- The same of the program read at the ideal values. -/
theorem frame_ideal : Cert.quiescent_KernelIdeal := fun m g _ =>
  (θ_run _ _ _).mono (fun _ h => ⟨fun c => (h.1 c).2, h.2⟩) (Cert.KernelProof.run_ideal m g)

/-- The reference leaves its arguments; it has no semaphore, so nothing is left to count. -/
theorem frame_reference : Cert.quiescent_ReferenceIdeal := fun m g _ =>
  (θ_run _ _ _).mono (fun _ h => ⟨fun c => (h c).2, funext fun s => match s with
    | (_, .reg q) => q.elim0
    | (_, .dma q) => q.elim0⟩) (Cert.ReferenceIdeal.Value.run m g)

/-- Every device's result is the reference's: the whole matrix multiplied by `B`. -/
theorem values : Cert.algebraic_KernelIdeal_ReferenceIdeal := by
  intro m g m' g' _ hm
  refine ⟨Cert.KernelProof.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ⟨?_, (h.1 c).2⟩) (Cert.KernelProof.run_ideal m g)
    rw [(h.1 c).1, ← Cert.KernelProof.slabs_whole]
    funext i
    rw [(hm c).2, (hm (Cert.KernelProof.slab i)).1]
  · exact (θ_run _ _ _).mono (fun r h => h 0) (Cert.ReferenceIdeal.Value.run m' g')

theorem claim : Cert.Claim :=
  ⟨Cert.Kernel.Gen.facts, Cert.KernelIdeal.Gen.facts, Cert.ReferenceIdeal.Gen.facts,
    frame_kernel, frame_ideal, frame_reference, trivial, values⟩

end Cert.Proof

end
